-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "half_scale" .f32 0x3E99BE61#32 (((Real.sqrt (16 * (Real.log 2)))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x256x2048 : Shape := ⟨3, ![16, 256, 2048]⟩
abbrev S256x256 : Shape := ⟨2, ![256, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel

variable [Facts]

def fn {F : FTy → Type} [FloatOps F] (main_arg0 : FVec F S16x256x2048 .f32) (main_arg1 : FVec F S16x256x2048 .f32) (main_arg2 : FVec F S256x256 .f32) (main_arg3 : FVec F S256x256 .f32) (main_arg4 : FVec F S256x256 .f32) : IVec S_ 1 :=
  let main_v0 : FVec F S256x256 .f32 := Host.absf main_arg2
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  main_v8
-- ==== Kernel.lean ====
abbrev S16x256x2048 : Shape := ⟨3, ![16, 256, 2048]⟩
abbrev S256x256 : Shape := ⟨2, ![256, 256]⟩
abbrev S2x256x2048 : Shape := ⟨3, ![2, 256, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S1x256 : Shape := ⟨2, ![1, 256]⟩
abbrev S2048x256 : Shape := ⟨2, ![2048, 256]⟩
abbrev S2048x128 : Shape := ⟨2, ![2048, 128]⟩
abbrev S2048x640 : Shape := ⟨2, ![2048, 640]⟩
abbrev S512x256 : Shape := ⟨2, ![512, 256]⟩
abbrev S512x2048 : Shape := ⟨2, ![512, 2048]⟩
abbrev S512x640 : Shape := ⟨2, ![512, 640]⟩
abbrev S512x128 : Shape := ⟨2, ![512, 128]⟩

abbrev nBuf : Space → Nat
  | .hbm => 6
  | .vmem => 9
  | .smem => 0
  | _ => 0

abbrev bufTy : (tb : Table) → Fin (tcTables nBuf tb) → BufTy
  | .hbm, ⟨0, _⟩ => ⟨S16x256x2048, .f32⟩
  | .hbm, ⟨1, _⟩ => ⟨S16x256x2048, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S16x256x2048, .f32⟩
  | .local _ .vmem, ⟨0, _⟩ => ⟨S2x256x2048, .f32⟩
  | .local _ .vmem, ⟨1, _⟩ => ⟨S2x256x2048, .f32⟩
  | .local _ .vmem, ⟨2, _⟩ => ⟨S2x256x2048, .f32⟩
  | .local _ .vmem, ⟨3, _⟩ => ⟨S2x256x2048, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S2x256x2048, .f32⟩
  | .local _ .vmem, ⟨8, _⟩ => ⟨S2x256x2048, .f32⟩
  | _, _ => ⟨S16x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "half_scale" => some (((Real.sqrt (16 * (Real.log 2)))⁻¹ : ℝ) : EReal)
  | _ => none
-- ==== ReferenceIdeal.lean ====
abbrev S16x256x2048 : Shape := ⟨3, ![16, 256, 2048]⟩
abbrev S256x256 : Shape := ⟨2, ![256, 256]⟩
abbrev S_ : Shape := ⟨0, ![]⟩
abbrev S16x256 : Shape := ⟨2, ![16, 256]⟩
abbrev S16x256x1 : Shape := ⟨3, ![16, 256, 1]⟩
abbrev S16x2048x256 : Shape := ⟨3, ![16, 2048, 256]⟩
abbrev S16x2048x2048 : Shape := ⟨3, ![16, 2048, 2048]⟩
abbrev S16x2048 : Shape := ⟨2, ![16, 2048]⟩
abbrev S16x2048x1 : Shape := ⟨3, ![16, 2048, 1]⟩

abbrev nBuf : Space → Nat
  | .hbm => 129
  | .vmem => 0
  | .smem => 0
  | _ => 0

abbrev hbmTy0_0 (i : Nat) : BufTy := match i % 128 with
  | 0 => ⟨S16x256x2048, .f32⟩
  | 1 => ⟨S16x256x2048, .f32⟩
  | 2 => ⟨S256x256, .f32⟩
  | 3 => ⟨S256x256, .f32⟩
  | 4 => ⟨S256x256, .f32⟩
  | 5 => ⟨S_, .f32⟩
  | 6 => ⟨S_, .f32⟩
  | 7 => ⟨S_, .f32⟩
  | 8 => ⟨S_, .f32⟩
  | 9 => ⟨S16x256, .f32⟩
  | 10 => ⟨S16x256x1, .f32⟩
  | 11 => ⟨S_, .f32⟩
  | 12 => ⟨S16x256x1, .f32⟩
  | 13 => ⟨S16x256x1, .f32⟩
  | 14 => ⟨S_, .i32⟩
  | 15 => ⟨S_, .f32⟩
  | 16 => ⟨S16x256, .f32⟩
  | 17 => ⟨S16x256x1, .f32⟩
  | 18 => ⟨S_, .f32⟩
  | 19 => ⟨S16x256x1, .f32⟩
  | 20 => ⟨S16x256x1, .f32⟩
  | 21 => ⟨S16x256x2048, .f32⟩
  | 22 => ⟨S16x256x2048, .f32⟩
  | 23 => ⟨S16x256x2048, .f32⟩
  | 24 => ⟨S_, .f32⟩
  | 25 => ⟨S_, .f32⟩
  | 26 => ⟨S_, .f32⟩
  | 27 => ⟨S_, .f32⟩
  | 28 => ⟨S16x256, .f32⟩
  | 29 => ⟨S16x256x1, .f32⟩
  | 30 => ⟨S16x256x1, .f32⟩
  | 31 => ⟨S16x256x1, .f32⟩
  | 32 => ⟨S_, .f32⟩
  | 33 => ⟨S_, .i1⟩
  | 34 => ⟨S_, .f32⟩
  | 35 => ⟨S_, .f32⟩
  | 36 => ⟨S16x256x1, .f32⟩
  | 37 => ⟨S16x256x1, .f32⟩
  | 38 => ⟨S16x256x1, .f32⟩
  | 39 => ⟨S_, .f32⟩
  | 40 => ⟨S16x256x1, .f32⟩
  | 41 => ⟨S16x256x1, .f32⟩
  | 42 => ⟨S16x256x2048, .f32⟩
  | 43 => ⟨S16x256x2048, .f32⟩
  | 44 => ⟨S16x256x2048, .f32⟩
  | 45 => ⟨S16x256x2048, .f32⟩
  | 46 => ⟨S16x2048x256, .f32⟩
  | 47 => ⟨S_, .f32⟩
  | 48 => ⟨S16x256, .f32⟩
  | 49 => ⟨S16x256x1, .f32⟩
  | 50 => ⟨S_, .f32⟩
  | 51 => ⟨S16x256x1, .f32⟩
  | 52 => ⟨S16x256x1, .f32⟩
  | 53 => ⟨S_, .i32⟩
  | 54 => ⟨S_, .f32⟩
  | 55 => ⟨S16x256, .f32⟩
  | 56 => ⟨S16x256x1, .f32⟩
  | 57 => ⟨S_, .f32⟩
  | 58 => ⟨S16x256x1, .f32⟩
  | 59 => ⟨S16x256x1, .f32⟩
  | 60 => ⟨S16x256x2048, .f32⟩
  | 61 => ⟨S16x256x2048, .f32⟩
  | 62 => ⟨S16x256x2048, .f32⟩
  | 63 => ⟨S_, .f32⟩
  | 64 => ⟨S_, .f32⟩
  | 65 => ⟨S_, .f32⟩
  | 66 => ⟨S_, .f32⟩
  | 67 => ⟨S16x256, .f32⟩
  | 68 => ⟨S16x256x1, .f32⟩
  | 69 => ⟨S16x256x1, .f32⟩
  | 70 => ⟨S16x256x1, .f32⟩
  | 71 => ⟨S_, .f32⟩
  | 72 => ⟨S_, .i1⟩
  | 73 => ⟨S_, .f32⟩
  | 74 => ⟨S_, .f32⟩
  | 75 => ⟨S16x256x1, .f32⟩
  | 76 => ⟨S16x256x1, .f32⟩
  | 77 => ⟨S16x256x1, .f32⟩
  | 78 => ⟨S_, .f32⟩
  | 79 => ⟨S16x256x1, .f32⟩
  | 80 => ⟨S16x256x1, .f32⟩
  | 81 => ⟨S16x256x2048, .f32⟩
  | 82 => ⟨S16x256x2048, .f32⟩
  | 83 => ⟨S16x256x2048, .f32⟩
  | 84 => ⟨S16x256x2048, .f32⟩
  | 85 => ⟨S16x2048x256, .f32⟩
  | 86 => ⟨S16x2048x256, .f32⟩
  | 87 => ⟨S16x2048x256, .f32⟩
  | 88 => ⟨S16x2048x256, .f32⟩
  | 89 => ⟨S16x2048x2048, .f32⟩
  | 90 => ⟨S_, .f32⟩
  | 91 => ⟨S16x2048, .f32⟩
  | 92 => ⟨S_, .f32⟩
  | 93 => ⟨S16x2048, .f32⟩
  | 94 => ⟨S16x2048, .f32⟩
  | 95 => ⟨S16x2048x1, .f32⟩
  | 96 => ⟨S16x2048x2048, .f32⟩
  | 97 => ⟨S16x2048x2048, .f32⟩
  | 98 => ⟨S16x2048x2048, .f32⟩
  | 99 => ⟨S_, .f32⟩
  | 100 => ⟨S16x2048, .f32⟩
  | 101 => ⟨S16x2048x1, .f32⟩
  | 102 => ⟨S16x2048x2048, .f32⟩
  | 103 => ⟨S16x2048x2048, .f32⟩
  | 104 => ⟨S16x2048x256, .f32⟩
  | 105 => ⟨S16x2048x256, .f32⟩
  | 106 => ⟨S16x2048x256, .f32⟩
  | 107 => ⟨S16x2048x256, .f32⟩
  | 108 => ⟨S16x2048x256, .f32⟩
  | 109 => ⟨S_, .f32⟩
  | 110 => ⟨S16x2048x256, .f32⟩
  | 111 => ⟨S16x2048x256, .f32⟩
  | 112 => ⟨S_, .f32⟩
  | 113 => ⟨S16x256, .f32⟩
  | 114 => ⟨S_, .f32⟩
  | 115 => ⟨S16x256, .f32⟩
  | 116 => ⟨S16x256, .f32⟩
  | 117 => ⟨S16x256x1, .f32⟩
  | 118 => ⟨S_, .f32⟩
  | 119 => ⟨S16x256, .f32⟩
  | 120 => ⟨S_, .f32⟩
  | 121 => ⟨S16x256, .f32⟩
  | 122 => ⟨S16x256, .f32⟩
  | 123 => ⟨S16x256, .f32⟩
  | 124 => ⟨S16x256x1, .f32⟩
  | 125 => ⟨S16x256x2048, .f32⟩
  | 126 => ⟨S16x256x2048, .f32⟩
  | 127 => ⟨S16x256x2048, .f32⟩
  | _ => ⟨S16x256x2048, .f32⟩

abbrev hbmTy0_1 (i : Nat) : BufTy := match i % 128 with
  | 0 => ⟨S16x256x2048, .f32⟩
  | _ => ⟨S16x256x2048, .f32⟩

abbrev hbmTy (i : Nat) : BufTy := match i / 128 with
  | 0 => hbmTy0_0 i
  | 1 => hbmTy0_1 i
  | _ => ⟨S16x256x2048, .f32⟩

abbrev bufTy : (tb : Table) → Fin (tcTables nBuf tb) → BufTy
  | .hbm, ⟨i, _⟩ => hbmTy i
  | _, _ => ⟨S16x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_cst_1 : Ref sig .tc := ⟨.hbm, 8, rfl⟩
abbrev main_v1 : Ref sig .tc := ⟨.hbm, 9, rfl⟩
abbrev main_v2 : Ref sig .tc := ⟨.hbm, 10, rfl⟩
abbrev main_cst_2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_call0_v12 : Ref sig .tc := ⟨.hbm, 31, rfl⟩
abbrev main_call0_call0_cst_3 : Ref sig .tc := ⟨.hbm, 32, rfl⟩
abbrev main_call0_call0_v13 : Ref sig .tc := ⟨.hbm, 33, rfl⟩
abbrev main_call0_call0_cst_4 : Ref sig .tc := ⟨.hbm, 34, rfl⟩
abbrev main_call0_call0_call0_v0 : Ref sig .tc := ⟨.hbm, 35, rfl⟩
abbrev main_call0_call0_call0_v1 : Ref sig .tc := ⟨.hbm, 36, rfl⟩
abbrev main_call0_v0 : Ref sig .tc := ⟨.hbm, 37, rfl⟩
abbrev main_v5 : Ref sig .tc := ⟨.hbm, 38, rfl⟩
abbrev main_cst_3 : Ref sig .tc := ⟨.hbm, 39, rfl⟩
abbrev main_v6 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_4 : Ref sig .tc := ⟨.hbm, 47, rfl⟩
abbrev main_v13 : Ref sig .tc := ⟨.hbm, 48, rfl⟩
abbrev main_v14 : Ref sig .tc := ⟨.hbm, 49, rfl⟩
abbrev main_cst_5 : Ref sig .tc := ⟨.hbm, 50, rfl⟩
abbrev main_v15 : Ref sig .tc := ⟨.hbm, 51, rfl⟩
abbrev main_v16 : Ref sig .tc := ⟨.hbm, 52, rfl⟩
abbrev main_c_6 : Ref sig .tc := ⟨.hbm, 53, rfl⟩
abbrev main_call1_call0_cst : Ref sig .tc := ⟨.hbm, 54, rfl⟩
abbrev main_call1_call0_v0 : Ref sig .tc := ⟨.hbm, 55, rfl⟩
abbrev main_call1_call0_v1 : Ref sig .tc := ⟨.hbm, 56, rfl⟩
abbrev main_call1_call0_cst_0 : Ref sig .tc := ⟨.hbm, 57, rfl⟩
abbrev main_call1_call0_v2 : Ref sig .tc := ⟨.hbm, 58, rfl⟩
abbrev main_call1_call0_v3 : Ref sig .tc := ⟨.hbm, 59, rfl⟩
abbrev main_call1_call0_v4 : Ref sig .tc := ⟨.hbm, 60, rfl⟩
abbrev main_call1_call0_v5 : Ref sig .tc := ⟨.hbm, 61, rfl⟩
abbrev main_call1_call0_v6 : Ref sig .tc := ⟨.hbm, 62, rfl⟩
abbrev main_call1_call0_v7 : Ref sig .tc := ⟨.hbm, 63, rfl⟩
abbrev main_call1_call0_cst_1 : Ref sig .tc := ⟨.hbm, 64, rfl⟩
abbrev main_call1_call0_v8 : Ref sig .tc := ⟨.hbm, 65, rfl⟩
abbrev main_call1_call0_cst_2 : Ref sig .tc := ⟨.hbm, 66, rfl⟩
abbrev main_call1_call0_v9 : Ref sig .tc := ⟨.hbm, 67, rfl⟩
abbrev main_call1_call0_v10 : Ref sig .tc := ⟨.hbm, 68, rfl⟩
abbrev main_call1_call0_v11 : Ref sig .tc := ⟨.hbm, 69, rfl⟩
abbrev main_call1_call0_v12 : Ref sig .tc := ⟨.hbm, 70, rfl⟩
abbrev main_call1_call0_cst_3 : Ref sig .tc := ⟨.hbm, 71, rfl⟩
abbrev main_call1_call0_v13 : Ref sig .tc := ⟨.hbm, 72, rfl⟩
abbrev main_call1_call0_cst_4 : Ref sig .tc := ⟨.hbm, 73, rfl⟩
abbrev main_call1_call0_call0_v0 : Ref sig .tc := ⟨.hbm, 74, rfl⟩
abbrev main_call1_call0_call0_v1 : Ref sig .tc := ⟨.hbm, 75, rfl⟩
abbrev main_call1_v0 : Ref sig .tc := ⟨.hbm, 76, rfl⟩
abbrev main_v17 : Ref sig .tc := ⟨.hbm, 77, rfl⟩
abbrev main_cst_7 : Ref sig .tc := ⟨.hbm, 78, rfl⟩
abbrev main_v18 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_v28 : Ref sig .tc := ⟨.hbm, 89, rfl⟩
abbrev main_cst_8 : Ref sig .tc := ⟨.hbm, 90, rfl⟩
abbrev main_v29 : Ref sig .tc := ⟨.hbm, 91, rfl⟩
abbrev main_cst_9 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_cst_10 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_call2_cst : Ref sig .tc := ⟨.hbm, 109, rfl⟩
abbrev main_call2_v0 : Ref sig .tc := ⟨.hbm, 110, rfl⟩
abbrev main_v45 : Ref sig .tc := ⟨.hbm, 111, rfl⟩
abbrev main_cst_11 : Ref sig .tc := ⟨.hbm, 112, rfl⟩
abbrev main_v46 : Ref sig .tc := ⟨.hbm, 113, rfl⟩
abbrev main_cst_12 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_13 : Ref sig .tc := ⟨.hbm, 118, rfl⟩
abbrev main_v50 : Ref sig .tc := ⟨.hbm, 119, rfl⟩
abbrev main_cst_14 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩

abbrev nD : Nat := 1
abbrev τ : Topo := Topo.v7x

variable {F : FTy → Type} [FloatOps F]
-- ==== Proof.Block.lean ====
/- What the kernel's body stores for ONE batch element, cut into named steps. The printed body writes the two batch
   elements of a block, and the four query blocks of each, one after the other; here every step is written once, and
   `out_eq` says that both stores are these steps. -/
module

public import proofs.«01_k».proof.Proof.Gen.KernelIdeal.Frame
public import Idealize.ShloMosaic.Lib.Pointwise

@[expose] public section

set_option maxRecDepth 16384

noncomputable section

namespace Cert.Block

open Cert.KernelIdeal Cert.KernelIdeal.Gen Idealize.ShloMosaic

/-- A batch element of a block, without its unit axis. -/
def flat (a : FVec Ideal S1x256x2048 .f32) : FVec Ideal S256x2048 .f32 :=
  shapeCast S256x2048 a shapeCasts_S1x256x2048_S256x2048

/-- Each channel's sum over the positions. -/
def total (x : FVec Ideal S256x2048 .f32) : FVec Ideal S256x1 .f32 :=
  shapeCast S256x1 (multiReduction .add [1] S256 x 0x00000000#32 reduces_S256x2048_S256 (.inl rfl) rfl) shapeCasts_S256_S256x1

/-- Each channel's mean. -/
def mean (x : FVec Ideal S256x2048 .f32) : FVec Ideal S256x1 .f32 :=
  mulf (total x) (broadcast S256x1 (Scalar.ofBits .f32 0x3A000000#32))

/-- Each channel's unbiased standard deviation, plus epsilon. -/
def dev (x : FVec Ideal S256x2048 .f32) : FVec Ideal S256x1 .f32 :=
  addf (sqrt (divf (subf (total (mulf x x))
      (mulf (mulf (broadcast S256x1 (Scalar.ofBits .f32 0x45000000#32)) (mean x)) (mean x)))
    (broadcast S256x1 (Scalar.ofBits .f32 0x44FFE000#32)))) (broadcast S256x1 (Scalar.ofBits .f32 0x3727C5AC#32))

/-- The reciprocal of `dev`. -/
def rdev (x : FVec Ideal S256x2048 .f32) : FVec Ideal S256x1 .f32 :=
  divf (broadcast S256x1 (Scalar.ofBits .f32 0x3F800000#32)) (dev x)

/-- A weight matrix with the normalisation's scale and the named constant folded into its columns. -/
def fold (w : FVec Ideal S256x256 .f32) (r : FVec Ideal S256x1 .f32) : FVec Ideal S256x256 .f32 :=
  mulf w (broadcastTo S256x256
    (mulf (broadcast S1x256 (Named.named κ "half_scale" 0x3E99BE61#32)) (shapeCast S1x256 r shapeCasts_S256x1_S1x256))
    broadcasts_S1x256_S256x256)

/-- The projection of the normalised input, by the folded weights and the bias that carries the mean. -/
def proj (x : FVec Ideal S256x2048 .f32) (mu : FVec Ideal S256x1 .f32) (w : FVec Ideal S256x256 .f32) :
    FVec Ideal S2048x256 .fp8e4m3 :=
  truncf .fp8e4m3 (addf
    (mulf (matmul dot_S256x2048_S256x256_S2048x256_0_1_1_0_n_n none
        (truncf .fp8e4m3 x bitsLt_fp8e4m3_f32 : FVec Ideal S256x2048 .fp8e4m3)
        (truncf .fp8e4m3 (mulf w (broadcast S256x256 (Scalar.ofBits .f32 0x41800000#32))) bitsLt_fp8e4m3_f32
          : FVec Ideal S256x256 .fp8e4m3)
        (constant S2048x256 .f32 0x00000000#32))
      (broadcast S2048x256 (Scalar.ofBits .f32 0x3D800000#32)))
    (broadcastTo S2048x256
      (subf (broadcast S1x256 (Scalar.ofBits .f32 0x00000000#32))
        (matmul dot_S1x256_S256x256_S1x256_1_1_0_0_n_n none (shapeCast S1x256 mu shapeCasts_S256x1_S1x256) w
          (constant S1x256 .f32 0x00000000#32)))
      broadcasts_S1x256_S2048x256)) bitsLt_fp8e4m3_f32

/-- The value projection. -/
def val (x : FVec Ideal S256x2048 .f32) (w : FVec Ideal S256x256 .f32) : FVec Ideal S2048x256 .f32 :=
  matmul dot_S256x2048_S256x256_S2048x256_0_1_1_0_n_n none
    (truncf .bf16 x bitsLt_bf16_f32 : FVec Ideal S256x2048 .bf16)
    (truncf .bf16 w bitsLt_bf16_f32 : FVec Ideal S256x256 .bf16) (constant S2048x256 .f32 0x00000000#32)

/-- The values, their squares and a strip of ones, side by side. -/
def cols (v : FVec Ideal S2048x256 .f32) : FVec Ideal S2048x640 .fp8e4m3 :=
  concatenate S2048x640 1
    [⟨S2048x256, (truncf .fp8e4m3 v bitsLt_fp8e4m3_f32 : FVec Ideal S2048x256 .fp8e4m3)⟩,
      ⟨S2048x256, (truncf .fp8e4m3 (mulf v v) bitsLt_fp8e4m3_f32 : FVec Ideal S2048x256 .fp8e4m3)⟩,
      ⟨S2048x128, (broadcast S2048x128 (Scalar.ofBits .fp8e4m3 0x38#8) : FVec Ideal S2048x128 .fp8e4m3)⟩]
    concatenates_S2048x256_S2048x256_S2048x128_S2048x640_d1

/-- The weights of one block of queries against every key, times the columns. -/
def attend (q : FVec Ideal S512x256 .fp8e4m3) (k : FVec Ideal S2048x256 .fp8e4m3) (v : FVec Ideal S2048x640 .fp8e4m3) :
    FVec Ideal S512x640 .f32 :=
  matmul dot_S512x2048_S2048x640_S512x640_1_0_0_1_n_n none
    (truncf .fp8e4m3 (exp2 (subf
      (matmul dot_S512x256_S2048x256_S512x2048_1_1_0_0_n_n none q k (constant S512x2048 .f32 0x00000000#32))
      (broadcast S512x2048 (Scalar.ofBits .f32 0x40400000#32)))) bitsLt_fp8e4m3_f32 : FVec Ideal S512x2048 .fp8e4m3)
    v (constant S512x640 .f32 0x00000000#32)

/-- The reciprocals of the weights' sums, repeated over the channels. -/
def recip (e : FVec Ideal S512x640 .f32) : FVec Ideal S512x256 .f32 :=
  let r : FVec Ideal S512x128 .f32 := divf (broadcast S512x128 (Scalar.ofBits .f32 0x3F800000#32))
    (extractStridedSlice S512x128 ![0, 512] e slices_S512x640_o0_512_S512x128)
  concatenate S512x256 1 [⟨S512x128, r⟩, ⟨S512x128, r⟩] concatenates_S512x128_S512x128_S512x256_d1

/-- The attention's mean of the values. -/
def avg (e : FVec Ideal S512x640 .f32) : FVec Ideal S512x256 .f32 :=
  mulf (extractStridedSlice S512x256 ![0, 0] e slices_S512x640_o0_0_S512x256) (recip e)

/-- The attention's variance of the values, before it is cut off at zero. -/
def spread (e : FVec Ideal S512x640 .f32) : FVec Ideal S512x256 .f32 :=
  subf (mulf (extractStridedSlice S512x256 ![0, 256] e slices_S512x640_o0_256_S512x256) (recip e)) (mulf (avg e) (avg e))

/-- A query block's sum over its queries, as a row. -/
def rows (a : FVec Ideal S512x256 .f32) : FVec Ideal S1x256 .f32 :=
  shapeCast S1x256 (multiReduction .add [0] S256 a 0x00000000#32 reduces_S512x256_S256 (.inl rfl) rfl) shapeCasts_S256_S1x256

/-- A query block's sum of the variances cut off at zero. -/
def rowsPos (a : FVec Ideal S512x256 .f32) : FVec Ideal S1x256 .f32 :=
  rows (maximumf a (broadcast S512x256 (Scalar.ofBits .f32 0x00000000#32)))

/-- The sum over the four query blocks, started at zero. -/
def sum4 (a b c d : FVec Ideal S1x256 .f32) : FVec Ideal S1x256 .f32 :=
  addf (addf (addf (addf (broadcast S1x256 (Scalar.ofBits .f32 0x00000000#32)) a) b) c) d

/-- A row divided by the number of queries. -/
def perQuery (a : FVec Ideal S1x256 .f32) : FVec Ideal S1x256 .f32 :=
  mulf a (broadcast S1x256 (Scalar.ofBits .f32 0x3A000000#32))

/-- The output of one batch element: the input scaled and shifted channel by channel. -/
def affine (x : FVec Ideal S256x2048 .f32) (mu rd : FVec Ideal S256x1 .f32) (m s : FVec Ideal S1x256 .f32) :
    FVec Ideal S1x256x2048 .f32 :=
  let g : FVec Ideal S256x1 .f32 := mulf (shapeCast S256x1 (sqrt (perQuery s)) shapeCasts_S1x256_S256x1) rd
  shapeCast S1x256x2048
    (addf (mulf (broadcastTo S256x2048 g broadcasts_S256x1_S256x2048) x)
      (broadcastTo S256x2048 (subf (shapeCast S256x1 (perQuery m) shapeCasts_S1x256_S256x1) (mulf g mu))
        broadcasts_S256x1_S256x2048)) shapeCasts_S256x2048_S1x256x2048

/-- The output from the four query blocks' weighted columns. -/
def finish (x : FVec Ideal S256x2048 .f32) (e0 e1 e2 e3 : FVec Ideal S512x640 .f32) : FVec Ideal S1x256x2048 .f32 :=
  affine x (mean x) (rdev x) (sum4 (rows (avg e0)) (rows (avg e1)) (rows (avg e2)) (rows (avg e3)))
    (sum4 (rowsPos (spread e0)) (rowsPos (spread e1)) (rowsPos (spread e2)) (rowsPos (spread e3)))

/-- The four query blocks of the projected queries, each attending to the keys. -/
def attendAll (x : FVec Ideal S256x2048 .f32) (q k : FVec Ideal S2048x256 .fp8e4m3) (v : FVec Ideal S2048x640 .fp8e4m3) :
    FVec Ideal S1x256x2048 .f32 :=
  finish x
    (attend (extractStridedSlice S512x256 ![0, 0] q slices_S2048x256_o0_0_S512x256) k v)
    (attend (extractStridedSlice S512x256 ![512, 0] q slices_S2048x256_o512_0_S512x256) k v)
    (attend (extractStridedSlice S512x256 ![1024, 0] q slices_S2048x256_o1024_0_S512x256) k v)
    (attend (extractStridedSlice S512x256 ![1536, 0] q slices_S2048x256_o1536_0_S512x256) k v)

/-- One batch element, whole. -/
def element (a b : FVec Ideal S1x256x2048 .f32) (wq wk wv : FVec Ideal S256x256 .f32) : FVec Ideal S1x256x2048 .f32 :=
  attendAll (flat a) (proj (flat a) (mean (flat a)) (fold wq (rdev (flat a))))
    (proj (flat b) (mean (flat b)) (fold wk (rdev (flat b)))) (cols (val (flat b) wv))

/-- Both stores of the body are `element` of the block's two batch elements. -/
theorem out_eq (x0 x1 : Vec Ideal S2x256x2048 .f32) (x2 x3 x4 : Vec Ideal S256x256 .f32) :
    out0_5 x0 x1 x2 x3 x4 = View.canon
      [⟨r0_2, element (View.ld x0 r0_2) (View.ld x1 r0_2) (View.ld x2 r0_1) (View.ld x3 r0_1) (View.ld x4 r0_1)⟩,
        ⟨r0_0, element (View.ld x0 r0_0) (View.ld x1 r0_0) (View.ld x2 r0_1) (View.ld x3 r0_1) (View.ld x4 r0_1)⟩] := by
  rfl

end Cert.Block

end
-- ==== Proof.Up.lean ====
/- Real numbers among the extended reals: sums, maxima, quotients and roots of reals are reals. Arrays of reals. -/
module

public import Idealize.ShloMosaic.Lib.Pointwise

@[expose] public section

noncomputable section

namespace Cert.Up

open Idealize.ShloMosaic

/-- A finite sum of reals is a real. -/
theorem sum_coe {ι : Type*} (s : Finset ι) (f : ι → ℝ) : ∑ i ∈ s, ((f i : ℝ) : EReal) = ((∑ i ∈ s, f i : ℝ) : EReal) := by
  induction s using Finset.cons_induction with
  | empty => rfl
  | cons a s h ih => rw [Finset.sum_cons, Finset.sum_cons, ih, ← EReal.coe_add]

/-- The larger of two reals is a real. -/
theorem max_coe (a b : ℝ) : max (a : EReal) b = ((max a b : ℝ) : EReal) :=
  (EReal.coe_strictMono.monotone.map_max).symm

/-- A quotient of reals by a real that is not zero is a real. -/
theorem div_coe {y : ℝ} (h : y ≠ 0) (x : ℝ) : Ideal.div (x : EReal) y = ((x / y : ℝ) : EReal) := by
  rw [Ideal.div_coe h, ← EReal.coe_mul, mul_one_div]

/-- The root of a real that is not negative is a real. -/
theorem sqrt_coe {x : ℝ} (h : 0 ≤ x) : Ideal.sqrt (x : EReal) = ((√x : ℝ) : EReal) := by
  rw [Ideal.sqrt_coe, if_neg (not_lt.mpr h)]

/-- A matrix of reals, as an array. -/
def up {n m : ℕ} (φ : FTy) (X : Fin n → Fin m → ℝ) : FVec Ideal ⟨2, ![n, m]⟩ φ :=
  fun i => ((X (i 0) (i 1) : ℝ) : EReal)

/-- An entry of a matrix of reals. -/
theorem up_apply {n m : ℕ} (φ : FTy) (X : Fin n → Fin m → ℝ) (a : Fin n) (b : Fin m) : up φ X (ix2 a b) = ((X a b : ℝ) : EReal) := rfl

/-- A box of reals, as an array. -/
def up3 {n m l : ℕ} (φ : FTy) (X : Fin n → Fin m → Fin l → ℝ) : FVec Ideal ⟨3, ![n, m, l]⟩ φ :=
  fun i => ((X (i 0) (i 1) (i 2) : ℝ) : EReal)

/-- An entry of a box of reals. -/
theorem up3_apply {n m l : ℕ} (φ : FTy) (X : Fin n → Fin m → Fin l → ℝ) (a : Fin n) (b : Fin m) (c : Fin l) :
    up3 φ X (ix3 a b c) = ((X a b c : ℝ) : EReal) := rfl

/-- A matrix of extended reals, as an array. -/
def arr {n m : ℕ} (φ : FTy) (X : Fin n → Fin m → EReal) : FVec Ideal ⟨2, ![n, m]⟩ φ := fun i => X (i 0) (i 1)

/-- An entry of a matrix of extended reals. -/
theorem arr_apply {n m : ℕ} (φ : FTy) (X : Fin n → Fin m → EReal) (a : Fin n) (b : Fin m) : arr φ X (ix2 a b) = X a b := rfl

/-- A box of extended reals, as an array. -/
def arr3 {n m l : ℕ} (φ : FTy) (X : Fin n → Fin m → Fin l → EReal) : FVec Ideal ⟨3, ![n, m, l]⟩ φ :=
  fun i => X (i 0) (i 1) (i 2)

/-- An entry of a box of extended reals. -/
theorem arr3_apply {n m l : ℕ} (φ : FTy) (X : Fin n → Fin m → Fin l → EReal) (a : Fin n) (b : Fin m) (c : Fin l) :
    arr3 φ X (ix3 a b c) = X a b c := rfl

/-- A matrix of extended reals at an index given by its coordinates. -/
theorem arr_of {n m : ℕ} (φ : FTy) (X : Fin n → Fin m → EReal) (i : (⟨2, ![n, m]⟩ : Shape).Idx) (a : Fin n) (b : Fin m)
    (h0 : (i 0).val = a.val) (h1 : (i 1).val = b.val) : arr φ X i = X a b := by
  obtain rfl : a = i 0 := Fin.ext h0.symm
  obtain rfl : b = i 1 := Fin.ext h1.symm
  rfl

/-- A box of extended reals at an index given by its coordinates. -/
theorem arr3_of {n m l : ℕ} (φ : FTy) (X : Fin n → Fin m → Fin l → EReal) (i : (⟨3, ![n, m, l]⟩ : Shape).Idx) (a : Fin n)
    (b : Fin m) (c : Fin l) (h0 : (i 0).val = a.val) (h1 : (i 1).val = b.val) (h2 : (i 2).val = c.val) :
    arr3 φ X i = X a b c := by
  obtain rfl : a = i 0 := Fin.ext h0.symm
  obtain rfl : b = i 1 := Fin.ext h1.symm
  obtain rfl : c = i 2 := Fin.ext h2.symm
  rfl

end Cert.Up

end
-- ==== Proof.Consts.lean ====
/- The reals that the two programs' constants denote. -/
module

public import proofs.«01_k».proof.KernelIdeal
public import Idealize.ShloMosaic.PureOps.IdealRules

@[expose] public section

noncomputable section

namespace Cert.Consts

open Idealize.ShloMosaic

/-- The programs' epsilon, the binary32 number nearest to 1e-5. -/
def eps : ℝ := 10995116 / 1099511627776

/-- Epsilon is positive. -/
theorem eps_pos : 0 < eps := by unfold eps; norm_num

/-- The number that the kernel folds into both projections. -/
def half : ℝ := (Real.sqrt (16 * Real.log 2))⁻¹

/-- 1/2048. -/
theorem c_inv2048 : Ideal.ofBits .f32 0x3A000000#32 = ((1 / 2048 : ℝ) : EReal) := by
  simp [Ideal.ofBits, Ideal.ieee, -EReal.coe_mul]; norm_num
/-- 2048. -/
theorem c_2048 : Ideal.ofBits .f32 0x45000000#32 = ((2048 : ℝ) : EReal) := by
  simp [Ideal.ofBits, Ideal.ieee, -EReal.coe_mul]; norm_num
/-- 2047. -/
theorem c_2047 : Ideal.ofBits .f32 0x44FFE000#32 = ((2047 : ℝ) : EReal) := by
  simp [Ideal.ofBits, Ideal.ieee, -EReal.coe_mul]; norm_num
/-- Epsilon. -/
theorem c_eps : Ideal.ofBits .f32 0x3727C5AC#32 = ((eps : ℝ) : EReal) := by
  simp [Ideal.ofBits, Ideal.ieee, -EReal.coe_mul, eps]; norm_num
/-- 1. -/
theorem c_1 : Ideal.ofBits .f32 0x3F800000#32 = ((1 : ℝ) : EReal) := by
  simp [Ideal.ofBits, Ideal.ieee, -EReal.coe_mul]; norm_num
/-- 16. -/
theorem c_16 : Ideal.ofBits .f32 0x41800000#32 = ((16 : ℝ) : EReal) := by
  simp [Ideal.ofBits, Ideal.ieee, -EReal.coe_mul]; norm_num
/-- 1/16. -/
theorem c_inv16 : Ideal.ofBits .f32 0x3D800000#32 = ((1 / 16 : ℝ) : EReal) := by
  simp [Ideal.ofBits, Ideal.ieee, -EReal.coe_mul]; norm_num
/-- 3. -/
theorem c_3 : Ideal.ofBits .f32 0x40400000#32 = ((3 : ℝ) : EReal) := by
  simp [Ideal.ofBits, Ideal.ieee, -EReal.coe_mul]; norm_num
/-- 0. -/
theorem c_0 : Ideal.ofBits .f32 0x00000000#32 = ((0 : ℝ) : EReal) := by
  simp [Ideal.ofBits, Ideal.ieee, -EReal.coe_mul]
/-- 256. -/
theorem c_256 : Ideal.ofBits .f32 0x43800000#32 = ((256 : ℝ) : EReal) := by
  simp [Ideal.ofBits, Ideal.ieee, -EReal.coe_mul]; norm_num
/-- 1/2. -/
theorem c_half : Ideal.ofBits .f32 0x3F000000#32 = ((1 / 2 : ℝ) : EReal) := by
  simp [Ideal.ofBits, Ideal.ieee, -EReal.coe_mul]; norm_num
/-- Minus infinity. -/
theorem c_bot : Ideal.ofBits .f32 0xFF800000#32 = ⊥ := by
  simp [Ideal.ofBits, Ideal.ieee]
/-- Plus infinity. -/
theorem c_top : Ideal.ofBits .f32 0x7F800000#32 = ⊤ := by
  simp [Ideal.ofBits, Ideal.ieee]
/-- The eight-bit 1. -/
theorem c_1f8 : Ideal.ofBits .fp8e4m3 0x38#8 = ((1 : ℝ) : EReal) := by
  simp [Ideal.ofBits, Ideal.e4m3fn, Ideal.ieee, -EReal.coe_mul]; norm_num

/-- The named constant is the number `half`, by the certificate's table. -/
theorem c_named : Named.named (F := Ideal) Cert.KernelIdeal.κ "half_scale" (φ := .f32) 0x3E99BE61#32 = ((half : ℝ) : EReal) :=
  IdealRules.named_const.ideal_named_scalar _ _ _ _ rfl

end Cert.Consts

end
-- ==== Proof.Spec.lean ====
/- The mathematics over the reals: the normalised channels, their projections and the attention's weights, and the
   identities by which the kernel's way of computing them (folded weights, a base-two exponential) gives the same numbers. -/
module

public import Mathlib.Analysis.SpecialFunctions.Pow.Real
public import proofs.«01_k».proof.Proof.Consts

@[expose] public section

noncomputable section

namespace Cert.Spec

open Cert.Consts

/-- A channel's mean. -/
def mean (x : Fin 2048 → ℝ) : ℝ := (∑ t, x t) / 2048

/-- A channel's unbiased standard deviation, plus epsilon. -/
def dev (x : Fin 2048 → ℝ) : ℝ := √((∑ t, (x t - mean x) * (x t - mean x)) / 2047) + eps

/-- A channel, normalised. -/
def normed (x : Fin 2048 → ℝ) (t : Fin 2048) : ℝ := (x t - mean x) / dev x

/-- The projection of the normalised input. -/
def proj (X : Fin 256 → Fin 2048 → ℝ) (W : Fin 256 → Fin 256 → ℝ) (s : Fin 2048) (o : Fin 256) : ℝ :=
  ∑ c, normed (X c) s * W o c

/-- A query's score against a key. -/
def score (q k : Fin 2048 → Fin 256 → ℝ) (s t : Fin 2048) : ℝ := ∑ o, q s o / 16 * k t o

/-- The softmax of a row of scores. -/
def weight (a : Fin 2048 → ℝ) (t : Fin 2048) : ℝ := Real.exp (a t) / ∑ u, Real.exp (a u)

/-- The standard deviation plus epsilon is positive. -/
theorem dev_pos (x : Fin 2048 → ℝ) : 0 < dev x := add_pos_of_nonneg_of_pos (Real.sqrt_nonneg _) eps_pos

/-- The sum of squared deviations from the sum of squares. -/
theorem sq_dev (x : Fin 2048 → ℝ) :
    (∑ t, x t * x t) - 2048 * mean x * mean x = ∑ t, (x t - mean x) * (x t - mean x) := by
  have h : ∑ t, x t = 2048 * mean x := by unfold mean; ring
  have e : ∀ t, (x t - mean x) * (x t - mean x) = x t * x t - 2 * mean x * x t + mean x * mean x := fun t => by ring
  simp only [e, Finset.sum_add_distrib, Finset.sum_sub_distrib, ← Finset.mul_sum, h, Finset.sum_const, Finset.card_univ,
    Fintype.card_fin, nsmul_eq_mul]
  push_cast
  ring

/-- The sum of squared deviations is not negative. -/
theorem sq_dev_nonneg (x : Fin 2048 → ℝ) : 0 ≤ (∑ t, (x t - mean x) * (x t - mean x)) / 2047 :=
  div_nonneg (Finset.sum_nonneg fun t _ => mul_self_nonneg _) (by norm_num)

/-- The folded weights and the bias give the projection, times the folded number `h`. -/
theorem proj_folded (h : ℝ) (X : Fin 256 → Fin 2048 → ℝ) (W : Fin 256 → Fin 256 → ℝ) (s : Fin 2048) (o : Fin 256) :
    (∑ c, X c s * (W o c * (h * (1 / dev (X c))) * 16)) * (1 / 16)
      + (0 - ∑ c, mean (X c) * (W o c * (h * (1 / dev (X c))))) = h * proj X W s o := by
  rw [proj, Finset.sum_mul, zero_sub, ← sub_eq_add_neg, ← Finset.sum_sub_distrib, Finset.mul_sum]
  refine Finset.sum_congr rfl fun c _ => ?_
  unfold normed
  ring

/-- The square of the folded number turns base two into base e and divides by sixteen. -/
theorem half_sq : half * half * Real.log 2 = 1 / 16 := by
  have hl : 0 < Real.log 2 := Real.log_pos (by norm_num)
  unfold half
  rw [← mul_inv, Real.mul_self_sqrt (by positivity)]
  field_simp

/-- The base-two exponential of the folded projections' product is an eighth of the exponential of the score. -/
theorem pow_score (q k : Fin 2048 → Fin 256 → ℝ) (s t : Fin 2048) :
    Real.rpow 2 ((∑ o, half * q s o * (half * k t o)) - 3) = Real.exp (score q k s t) / 8 := by
  have e : Real.log 2 * ∑ o, half * q s o * (half * k t o) = score q k s t := by
    rw [score, Finset.mul_sum]
    refine Finset.sum_congr rfl fun o _ => ?_
    calc Real.log 2 * (half * q s o * (half * k t o)) = half * half * Real.log 2 * (q s o * k t o) := by ring
      _ = q s o / 16 * k t o := by rw [half_sq]; ring
  show (2 : ℝ) ^ ((∑ o, half * q s o * (half * k t o)) - 3) = _
  rw [Real.rpow_sub (by norm_num), Real.rpow_def_of_pos (by norm_num), e]
  norm_num

/-- The sum of the unnormalised weights is positive. -/
theorem total_pos (a : Fin 2048 → ℝ) : 0 < ∑ t, Real.exp (a t) / 8 * 1 :=
  Finset.sum_pos (fun t _ => by positivity) Finset.univ_nonempty

/-- An unnormalised weight over the sum of them is the softmax's weight. -/
theorem weight_of_sums (a : Fin 2048 → ℝ) (t : Fin 2048) :
    Real.exp (a t) / 8 * (1 / ∑ u, Real.exp (a u) / 8 * 1) = weight a t := by
  have hz : ∑ u, Real.exp (a u) ≠ 0 := (Finset.sum_pos (fun t _ => Real.exp_pos _) Finset.univ_nonempty).ne'
  have e : ∑ t, Real.exp (a t) / 8 * 1 = (∑ u, Real.exp (a u)) / 8 := by simp only [mul_one, Finset.sum_div]
  rw [e, weight]
  field_simp

/-- The softmax's weights are positive. -/
theorem weight_pos (a : Fin 2048 → ℝ) (t : Fin 2048) : 0 < weight a t :=
  div_pos (Real.exp_pos _) (Finset.sum_pos (fun t _ => Real.exp_pos _) Finset.univ_nonempty)

/-- The softmax does not change when every score is lowered by one number. -/
theorem weight_shift (a : Fin 2048 → ℝ) (b : ℝ) (t : Fin 2048) :
    Real.exp (a t - b) / ∑ u, Real.exp (a u - b) = weight a t := by
  simp only [Real.exp_sub, ← Finset.sum_div, weight]
  rw [div_div_div_cancel_right₀ (Real.exp_pos b).ne']

/-- A scale and a shift are the scaled normalised channel. -/
theorem affine_eq (x : Fin 2048 → ℝ) (t : Fin 2048) (g : ℝ) :
    x t * (g * (1 / dev x)) - mean x * (g * (1 / dev x)) = g * normed x t := by
  unfold normed
  ring

/-- A sum over the queries, block by block. -/
theorem sum_blocks {α : Type*} [AddCommMonoid α] (f : Fin 2048 → α) :
    (∑ i : Fin 512, f ⟨0 + i, by omega⟩) + (∑ i : Fin 512, f ⟨512 + i, by omega⟩)
      + (∑ i : Fin 512, f ⟨1024 + i, by omega⟩) + (∑ i : Fin 512, f ⟨1536 + i, by omega⟩) = ∑ i, f i := by
  let g : ℕ → α := fun n => if h : n < 2048 then f ⟨n, h⟩ else 0
  have hg : ∀ (b : ℕ) (hb : b + 512 ≤ 2048), ∑ i : Fin 512, f ⟨b + i, by omega⟩ = ∑ i ∈ Finset.range 512, g (b + i) := by
    intro b hb
    rw [← Fin.sum_univ_eq_sum_range (fun n => g (b + n))]
    refine Finset.sum_congr rfl fun i _ => ?_
    show _ = dite _ _ _
    rw [dif_pos (by omega)]
  have hf : ∑ i, f i = ∑ i ∈ Finset.range 2048, g i := by
    rw [← Fin.sum_univ_eq_sum_range g]
    refine Finset.sum_congr rfl fun i _ => ?_
    show _ = dite _ _ _
    rw [dif_pos i.isLt]
  rw [hg 0 (by norm_num), hg 512 (by norm_num), hg 1024 (by norm_num), hg 1536 (by norm_num), hf,
    show (2048 : ℕ) = 512 + 512 + 512 + 512 from rfl, Finset.sum_range_add, Finset.sum_range_add, Finset.sum_range_add]
  simp only [zero_add]

end Cert.Spec

end
-- ==== Proof.Ext.lean ====
/- The mathematics over the extended reals, where sources, targets and value weights may hold infinities. A channel that
   holds one is normalised to zero, by the kernel and by the reference, though each gets there in its own way. -/
module

public import proofs.«01_k».proof.Proof.Up
public import proofs.«01_k».proof.Proof.Spec

@[expose] public section

noncomputable section

namespace Cert.Ext

open Idealize.ShloMosaic Cert.Consts Cert.Up

/-- An extended real that is an infinity. -/
def Wild (x : EReal) : Prop := x = ⊤ ∨ x = ⊥

/-- An extended real that is no infinity is a real. -/
theorem real_of_tame {x : EReal} (h : ¬Wild x) : ((x.toReal : ℝ) : EReal) = x :=
  EReal.coe_toReal (fun e => h (.inl e)) (fun e => h (.inr e))

/-- A sum with an infinity in it is an infinity. -/
theorem wild_add {x y : EReal} (h : Wild x ∨ Wild y) : Wild (x + y) := by
  unfold Wild at *
  induction x <;> induction y <;> simp_all

/-- A finite sum with an infinity in it is an infinity. -/
theorem wild_sum {ι : Type*} (s : Finset ι) (f : ι → EReal) (i : ι) (hi : i ∈ s) (h : Wild (f i)) : Wild (∑ j ∈ s, f j) := by
  classical
  rw [← Finset.add_sum_erase s f hi]
  exact wild_add (.inl h)

/-- A difference from an infinity is an infinity. -/
theorem wild_sub {y : EReal} (x : EReal) (h : Wild y) : Wild (x - y) := by
  rw [sub_eq_add_neg]
  refine wild_add (.inr ?_)
  rcases h with rfl | rfl
  · exact .inr rfl
  · exact .inl rfl

/-- An infinity times a positive real is an infinity. -/
theorem wild_mul {x : EReal} (h : Wild x) {r : ℝ} (hr : 0 < r) : Wild (x * r) := by
  rcases h with rfl | rfl
  · exact .inl (EReal.top_mul_coe_of_pos hr)
  · exact .inr (EReal.bot_mul_coe_of_pos hr)

/-- The square of an infinity is plus infinity. -/
theorem wild_sq {x : EReal} (h : Wild x) : x * x = ⊤ := by
  rcases h with rfl | rfl
  · exact EReal.top_mul_top
  · exact EReal.bot_mul_bot

/-- The root of minus infinity. -/
theorem sqrt_bot : Ideal.sqrt ⊥ = ⊥ := rfl

/-- The root of plus infinity. -/
theorem sqrt_top : Ideal.sqrt ⊤ = ⊤ := rfl

/-- A square is not negative. -/
theorem sq_nonneg (x : EReal) : 0 ≤ x * x := by
  rcases le_total 0 x with h | h
  · exact mul_nonneg h h
  · have := mul_nonneg (EReal.neg_nonneg.2 h) (EReal.neg_nonneg.2 h)
    simpa using this

/-- A sum of numbers that are not negative, one of them an infinity, is plus infinity. -/
theorem sum_top {ι : Type*} (s : Finset ι) (f : ι → EReal) (hf : ∀ j, 0 ≤ f j) (i : ι) (hi : i ∈ s) (h : Wild (f i)) :
    ∑ j ∈ s, f j = ⊤ := by
  rcases wild_sum s f i hi h with e | e
  · exact e
  · have := Finset.sum_nonneg fun j (_ : j ∈ s) => hf j
    rw [e] at this
    simp at this

/-- A finite sum times a real that is not negative is the sum of the products. -/
theorem sum_mul {ι : Type*} (s : Finset ι) (f : ι → EReal) {r : ℝ} (hr : 0 ≤ r) : (∑ i ∈ s, f i) * (r : EReal) = ∑ i ∈ s, f i * r := by
  induction s using Finset.cons_induction with
  | empty => simp
  | cons a s h ih =>
    rw [Finset.sum_cons, Finset.sum_cons, EReal.right_distrib_of_nonneg_of_ne_top (EReal.coe_nonneg.2 hr) (EReal.coe_ne_top r), ih]

open scoped Classical in
/-- A channel with an infinity in it, replaced by zero; any other channel as it is. -/
def tame (x : Fin 2048 → EReal) : Fin 2048 → ℝ := if ∀ t, ¬Wild (x t) then fun t => (x t).toReal else fun _ => 0

/-- A channel is one of reals, or holds an infinity. -/
theorem tame_cases (x : Fin 2048 → EReal) :
    (∃ r : Fin 2048 → ℝ, x = (fun t => (r t : EReal)) ∧ tame x = r) ∨ ((∃ t, Wild (x t)) ∧ tame x = fun _ => 0) := by
  by_cases h : ∀ t, ¬Wild (x t)
  · exact .inl ⟨fun t => (x t).toReal, funext fun t => (real_of_tame (h t)).symm, if_pos h⟩
  · exact .inr ⟨by simpa using h, if_neg h⟩

/-- A channel's mean. -/
def mean (x : Fin 2048 → EReal) : EReal := (∑ t, x t) * ((1 / 2048 : ℝ) : EReal)

/-- The reciprocal of a channel's standard deviation plus epsilon, from the sum of squares. -/
def rdev (x : Fin 2048 → EReal) : EReal :=
  Ideal.div ((1 : ℝ) : EReal)
    (Ideal.sqrt (Ideal.div ((∑ t, x t * x t) - ((2048 : ℝ) : EReal) * mean x * mean x) ((2047 : ℝ) : EReal)) + (eps : EReal))

/-- A channel, normalised, from the squared deviations. -/
def normed (x : Fin 2048 → EReal) (t : Fin 2048) : EReal :=
  Ideal.div (x t - mean x)
    (Ideal.sqrt (Ideal.div (∑ u, (x u - mean x) * (x u - mean x)) ((2047 : ℝ) : EReal)) + (eps : EReal))

/-- The mean of a channel of reals. -/
theorem mean_real (r : Fin 2048 → ℝ) : mean (fun t => (r t : EReal)) = (Spec.mean r : EReal) := by
  rw [mean, sum_coe, ← EReal.coe_mul, Spec.mean, mul_one_div]

/-- The mean of a channel that holds an infinity is an infinity. -/
theorem mean_wild {x : Fin 2048 → EReal} {t : Fin 2048} (h : Wild (x t)) : Wild (mean x) :=
  wild_mul (wild_sum _ _ t (Finset.mem_univ t) h) (by norm_num)

/-- The reciprocal deviation of a channel of reals. -/
theorem rdev_real (r : Fin 2048 → ℝ) : rdev (fun t => (r t : EReal)) = ((1 / Spec.dev r : ℝ) : EReal) := by
  rw [rdev, mean_real]
  simp only [← EReal.coe_mul, sum_coe]
  rw [← EReal.coe_sub, div_coe (by norm_num), Spec.sq_dev, sqrt_coe (Spec.sq_dev_nonneg _), ← EReal.coe_add]
  exact div_coe (Spec.dev_pos r).ne' 1

/-- The reciprocal deviation of a channel that holds an infinity is zero: its variance is a difference of infinities. -/
theorem rdev_wild {x : Fin 2048 → EReal} {t : Fin 2048} (h : Wild (x t)) : rdev x = 0 := by
  have hs : ∑ u, x u * x u = ⊤ := sum_top _ _ (fun u => sq_nonneg (x u)) t (Finset.mem_univ t) (.inl (wild_sq h))
  have hm : ((2048 : ℝ) : EReal) * mean x * mean x = ⊤ := by
    rw [mul_assoc, wild_sq (mean_wild h)]
    exact EReal.coe_mul_top_of_pos (by norm_num)
  have hv : Ideal.div (⊥ : EReal) ((2047 : ℝ) : EReal) = ⊥ := by
    rw [Ideal.div_coe (by norm_num)]
    exact EReal.bot_mul_coe_of_pos (by norm_num)
  rw [rdev, hs, hm, EReal.sub_top, hv, sqrt_bot, EReal.bot_add, Ideal.div, if_neg EReal.bot_ne_zero, EReal.inv_bot, mul_zero]

/-- A channel's entry times a multiple of its reciprocal deviation. -/
theorem entry_scaled (x : Fin 2048 → EReal) (g : ℝ) (t : Fin 2048) :
    x t * ((g : EReal) * rdev x) = ((tame x t * (g * (1 / Spec.dev (tame x))) : ℝ) : EReal) := by
  rcases tame_cases x with ⟨r, hx, hr⟩ | ⟨⟨u, hu⟩, hr⟩
  · rw [hr, hx, rdev_real, ← EReal.coe_mul, ← EReal.coe_mul]
  · rw [hr, rdev_wild hu]
    simp

/-- A channel's mean times a multiple of its reciprocal deviation. -/
theorem mean_scaled (x : Fin 2048 → EReal) (g : ℝ) :
    mean x * ((g : EReal) * rdev x) = ((Spec.mean (tame x) * (g * (1 / Spec.dev (tame x))) : ℝ) : EReal) := by
  rcases tame_cases x with ⟨r, hx, hr⟩ | ⟨⟨u, hu⟩, hr⟩
  · rw [hr, hx, rdev_real, mean_real, ← EReal.coe_mul, ← EReal.coe_mul]
  · rw [hr, rdev_wild hu]
    simp [Spec.mean]

/-- A normalised channel is that of the reals in its stead. -/
theorem normed_eq (x : Fin 2048 → EReal) (t : Fin 2048) : normed x t = (Spec.normed (tame x) t : EReal) := by
  rcases tame_cases x with ⟨r, hx, hr⟩ | ⟨⟨u, hu⟩, hr⟩
  · rw [hr, hx, normed, mean_real]
    simp only [← EReal.coe_sub, ← EReal.coe_mul, sum_coe]
    rw [div_coe (by norm_num), sqrt_coe (Spec.sq_dev_nonneg _), ← EReal.coe_add]
    exact div_coe (Spec.dev_pos r).ne' _
  · have hs : ∑ u, (x u - mean x) * (x u - mean x) = ⊤ :=
      sum_top _ _ (fun v => sq_nonneg _) u (Finset.mem_univ u) (.inl (wild_sq (wild_sub _ (mean_wild hu))))
    have hv : Ideal.div (⊤ : EReal) ((2047 : ℝ) : EReal) = ⊤ := by
      rw [Ideal.div_coe (by norm_num)]
      exact EReal.top_mul_coe_of_pos (by norm_num)
    rw [hr, normed, hs, hv, sqrt_top, EReal.top_add_coe, Ideal.div, if_neg EReal.top_ne_zero, EReal.inv_top, mul_zero]
    simp [Spec.normed, Spec.mean]

/-- A weighted mean. -/
def avg (w : Fin 2048 → ℝ) (v : Fin 2048 → EReal) : EReal := ∑ t, (w t : EReal) * v t

/-- A weighted variance, cut off at zero, as a real. -/
def var (w : Fin 2048 → ℝ) (v : Fin 2048 → EReal) : ℝ :=
  (max (avg w (fun t => v t * v t) - avg w v * avg w v) ((0 : ℝ) : EReal)).toReal

/-- A weighted variance is a real: it is zero where the values hold an infinity. -/
theorem var_coe (w : Fin 2048 → ℝ) (hw : ∀ t, 0 < w t) (v : Fin 2048 → EReal) :
    max (avg w (fun t => v t * v t) - avg w v * avg w v) ((0 : ℝ) : EReal) = (var w v : EReal) := by
  refine (real_of_tame ?_).symm
  rcases tame_cases v with ⟨r, hx, -⟩ | ⟨⟨u, hu⟩, -⟩
  · subst hx
    simp only [avg, ← EReal.coe_mul, sum_coe, ← EReal.coe_sub, max_coe]
    rintro (h | h)
    · exact EReal.coe_ne_top _ h
    · exact EReal.coe_ne_bot _ h
  · have ha : Wild (avg w v) :=
      wild_sum _ _ u (Finset.mem_univ u) (by rw [mul_comm]; exact wild_mul hu (hw u))
    rw [wild_sq ha, EReal.sub_top, max_eq_right bot_le]
    rintro (h | h)
    · exact EReal.coe_ne_top _ h
    · exact EReal.coe_ne_bot _ h

/-- A weighted variance is not negative. -/
theorem var_nonneg (w : Fin 2048 → ℝ) (v : Fin 2048 → EReal) : 0 ≤ var w v :=
  EReal.toReal_nonneg (le_max_right _ _)

/-- An unnormalised weighted sum over the sum of the weights is the softmax's weighted mean. -/
theorem avg_of_sums (a : Fin 2048 → ℝ) (v : Fin 2048 → EReal) :
    (∑ t, ((Real.exp (a t) / 8 : ℝ) : EReal) * v t) * ((1 / ∑ t, Real.exp (a t) / 8 * 1 : ℝ) : EReal) = avg (Spec.weight a) v := by
  rw [sum_mul _ _ (div_nonneg zero_le_one (Spec.total_pos a).le), avg]
  refine Finset.sum_congr rfl fun t _ => ?_
  rw [mul_right_comm, ← EReal.coe_mul, Spec.weight_of_sums]

/-- The projection of the input as it is. -/
def val (X : Fin 256 → Fin 2048 → EReal) (W : Fin 256 → Fin 256 → EReal) (t : Fin 2048) (o : Fin 256) : EReal :=
  ∑ c, X c t * W o c

/-- The attention's weights of query `s`. -/
def att (X Y : Fin 256 → Fin 2048 → EReal) (WQ WK : Fin 256 → Fin 256 → ℝ) (s : Fin 2048) : Fin 2048 → ℝ :=
  Spec.weight (Spec.score (Spec.proj (fun c => tame (X c)) WQ) (Spec.proj (fun c => tame (Y c)) WK) s)

/-- One batch element of the result, at channel `c` and position `s`. -/
def out (X Y : Fin 256 → Fin 2048 → EReal) (WQ WK : Fin 256 → Fin 256 → ℝ) (WV : Fin 256 → Fin 256 → EReal)
    (c : Fin 256) (s : Fin 2048) : EReal :=
  ((√((∑ u, var (att X Y WQ WK u) (fun t => val Y WV t c)) / 2048) * Spec.normed (tame (X c)) s : ℝ) : EReal)
    + (∑ u, avg (att X Y WQ WK u) (fun t => val Y WV t c)) * ((1 / 2048 : ℝ) : EReal)

/-- The folded weights and the bias give the projection of the normalised input, times the folded number `h`. -/
theorem proj_folded (h : ℝ) (X : Fin 256 → Fin 2048 → EReal) (W : Fin 256 → Fin 256 → ℝ) (s : Fin 2048) (o : Fin 256) :
    (∑ c, X c s * ((W o c : EReal) * ((h : EReal) * rdev (X c)) * ((16 : ℝ) : EReal))) * ((1 / 16 : ℝ) : EReal)
      + (((0 : ℝ) : EReal) - ∑ c, mean (X c) * ((W o c : EReal) * ((h : EReal) * rdev (X c))))
      = ((h * Spec.proj (fun c => tame (X c)) W s o : ℝ) : EReal) := by
  have e : ∀ c, X c s * ((W o c : EReal) * ((h : EReal) * rdev (X c)) * ((16 : ℝ) : EReal))
      = ((tame (X c) s * (W o c * (h * (1 / Spec.dev (tame (X c)))) * 16) : ℝ) : EReal) := fun c => by
    rw [show (W o c : EReal) * ((h : EReal) * rdev (X c)) * ((16 : ℝ) : EReal)
      = ((W o c * h * 16 : ℝ) : EReal) * rdev (X c) by push_cast; ac_rfl, entry_scaled]
    congr 1
    ring
  have e' : ∀ c, mean (X c) * ((W o c : EReal) * ((h : EReal) * rdev (X c)))
      = ((Spec.mean (tame (X c)) * (W o c * (h * (1 / Spec.dev (tame (X c))))) : ℝ) : EReal) := fun c => by
    rw [← mul_assoc (W o c : EReal), ← EReal.coe_mul, mean_scaled, mul_assoc (W o c)]
  simp only [e, e', sum_coe, ← EReal.coe_mul, ← EReal.coe_sub, ← EReal.coe_add]
  rw [← Spec.proj_folded h]

/-- The scale and the shift of one channel give its scaled normalisation plus `m`. -/
theorem affine_eq (x : Fin 2048 → EReal) (t : Fin 2048) (g : ℝ) (m : EReal) :
    (g : EReal) * rdev x * x t + (m - (g : EReal) * rdev x * mean x) = ((g * Spec.normed (tame x) t : ℝ) : EReal) + m := by
  rw [mul_comm ((g : EReal) * rdev x) (x t), mul_comm ((g : EReal) * rdev x) (mean x), entry_scaled, mean_scaled,
    ← Spec.affine_eq, EReal.coe_sub, sub_eq_add_neg, sub_eq_add_neg, add_comm m, add_assoc]

end Cert.Ext

end
-- ==== Proof.Steps.lean ====
/- Every step of the kernel's body (Block.lean), on arrays of extended reals or of reals: the step's result, named. -/
module

public import proofs.«01_k».proof.Proof.Block
public import proofs.«01_k».proof.Proof.Ext

@[expose] public section

set_option maxRecDepth 16384

noncomputable section

namespace Cert.Steps

open Cert.KernelIdeal Cert.KernelIdeal.Gen Idealize.ShloMosaic Cert.Block Cert.Up Cert.Consts

/-- A channel's sum. -/
theorem total_arr (X : Fin 256 → Fin 2048 → EReal) : total (arr .f32 X) = arr .f32 (fun c _ => ∑ t, X c t) := by
  funext j
  idx_vars j
  pointwise [total, arr_apply]

/-- A channel's mean. -/
theorem mean_arr (X : Fin 256 → Fin 2048 → EReal) : mean (arr .f32 X) = arr .f32 (fun c _ => Ext.mean (X c)) := by
  funext j
  idx_vars j
  pointwise [mean, total_arr, arr_apply, c_inv2048, Ext.mean]

/-- The elementwise square. -/
theorem square_arr {n m : ℕ} (X : Fin n → Fin m → EReal) :
    (mulf (arr .f32 X) (arr .f32 X) : FVec Ideal ⟨2, ![n, m]⟩ .f32) = arr .f32 (fun a b => X a b * X a b) := rfl

/-- The reciprocal of a channel's standard deviation plus epsilon. -/
theorem rdev_arr (X : Fin 256 → Fin 2048 → EReal) : rdev (arr .f32 X) = arr .f32 (fun c _ => Ext.rdev (X c)) := by
  funext j
  idx_vars j
  unfold rdev dev
  rw [square_arr, total_arr, mean_arr]
  pointwise [arr_apply, c_2048, c_2047, c_eps, c_1, Ext.rdev]

/-- The folded weights. -/
theorem fold_arr (W : Fin 256 → Fin 256 → ℝ) (R : Fin 256 → Fin 1 → EReal) :
    fold (up .f32 W) (arr .f32 R) = arr .f32 (fun o c => (W o c : EReal) * ((half : EReal) * R c 0)) := by
  funext j
  idx_vars j
  pointwise [fold, up_apply, arr_apply, c_named]

/-- The projection from the folded weights and the bias. -/
theorem proj_arr (X : Fin 256 → Fin 2048 → EReal) (M : Fin 256 → Fin 1 → EReal) (W : Fin 256 → Fin 256 → EReal) :
    proj (arr .f32 X) (arr .f32 M) (arr .f32 W)
      = arr .fp8e4m3 (fun s o => (∑ c, X c s * (W o c * ((16 : ℝ) : EReal))) * ((1 / 16 : ℝ) : EReal)
          + (((0 : ℝ) : EReal) - ∑ c, M c 0 * W o c)) := by
  funext j
  idx_vars j
  pointwise [proj, arr_apply, c_16, c_inv16]
  rfl

/-- The projection of the normalised input, times the folded number. -/
theorem projection (X : Fin 256 → Fin 2048 → EReal) (W : Fin 256 → Fin 256 → ℝ) :
    proj (arr .f32 X) (mean (arr .f32 X)) (fold (up .f32 W) (rdev (arr .f32 X)))
      = up .fp8e4m3 (fun s o => half * Spec.proj (fun c => Ext.tame (X c)) W s o) := by
  rw [mean_arr, rdev_arr, fold_arr, proj_arr]
  simp only [Ext.proj_folded]
  rfl

/-- The value projection. -/
theorem val_arr (X : Fin 256 → Fin 2048 → EReal) (W : Fin 256 → Fin 256 → EReal) :
    val (arr .f32 X) (arr .f32 W) = arr .f32 (Ext.val X W) := by
  funext j
  idx_vars j
  pointwise [val, arr_apply, Ext.val]

/-- Two matrices and a column repeated, side by side. -/
def pack {n : ℕ} (N M : Fin n → Fin 256 → EReal) (D : Fin n → ℝ) (s : Fin n) (j : Fin 640) : EReal :=
  if h : j.val < 256 then N s ⟨j, h⟩ else if h' : j.val - 256 < 256 then M s ⟨j - 256, h'⟩ else (D s : EReal)

/-- The values, their squares and the ones. -/
theorem cols_arr (V : Fin 2048 → Fin 256 → EReal) :
    cols (arr .f32 V) = arr .fp8e4m3 (pack V (fun s o => V s o * V s o) (fun _ => 1)) := by
  funext j
  idx_vars j
  pointwise [cols, arr_apply, c_1f8, pack]

/-- The base-two exponential of a real. -/
theorem exp2_real (x : ℝ) : (FloatOps.exp2 (F := Ideal) (φ := .f32) ((x : ℝ) : EReal)) = ((Real.rpow 2 x : ℝ) : EReal) := rfl

/-- The weights of a block of queries, times the columns. -/
theorem attend_arr (q : Fin 512 → Fin 256 → ℝ) (k : Fin 2048 → Fin 256 → ℝ) (v : Fin 2048 → Fin 640 → EReal) :
    attend (up .fp8e4m3 q) (up .fp8e4m3 k) (arr .fp8e4m3 v)
      = arr .f32 (fun s j => ∑ t, ((Real.rpow 2 ((∑ o, q s o * k t o) - 3) : ℝ) : EReal) * v t j) := by
  funext j
  idx_vars j
  pointwise [attend, up_apply, arr_apply, c_3]
  simp only [← EReal.coe_mul, sum_coe, ← EReal.coe_sub, exp2_real]

/-- A sum of weighted columns, column kind by column kind. -/
theorem sum_pack {n m : ℕ} (p : Fin n → Fin m → ℝ) (N M : Fin m → Fin 256 → EReal) (D : Fin m → ℝ) (s : Fin n) (j : Fin 640) :
    ∑ t, (p s t : EReal) * pack N M D t j
      = pack (fun s o => ∑ t, (p s t : EReal) * N t o) (fun s o => ∑ t, (p s t : EReal) * M t o) (fun s => ∑ t, p s t * D t) s j := by
  unfold pack
  split_ifs
  · rfl
  · rfl
  · simp only [← EReal.coe_mul, sum_coe]

/-- The reciprocals of the sums of weights. -/
theorem recip_arr (N M : Fin 512 → Fin 256 → EReal) (D : Fin 512 → ℝ) (hD : ∀ s, D s ≠ 0) :
    recip (arr .f32 (pack N M D)) = up .f32 (fun s _ => 1 / D s) := by
  funext j
  idx_vars j
  pointwise [recip, up_apply, arr_apply, c_1, pack]
  have h0 : ¬512 + j1.val < 256 := by omega
  have h1 : ¬512 + j1.val - 256 < 256 := by omega
  have h2 : ¬512 + (j1.val - 128) < 256 := by omega
  have h3 : ¬512 + (j1.val - 128) - 256 < 256 := by omega
  simp only [h0, h1, h2, h3, ↓reduceDIte, div_coe (hD _), dite_eq_ite, ite_self]

/-- The weighted means of a block of queries. -/
theorem avg_arr (N M : Fin 512 → Fin 256 → EReal) (D : Fin 512 → ℝ) (hD : ∀ s, D s ≠ 0) :
    avg (arr .f32 (pack N M D)) = arr .f32 (fun s o => N s o * ((1 / D s : ℝ) : EReal)) := by
  funext j
  idx_vars j
  unfold avg
  rw [recip_arr N M D hD]
  pointwise [up_apply, arr_apply, pack]

/-- The weighted variances of a block of queries, before the cut-off. -/
theorem spread_arr (N M : Fin 512 → Fin 256 → EReal) (D : Fin 512 → ℝ) (hD : ∀ s, D s ≠ 0) :
    spread (arr .f32 (pack N M D))
      = arr .f32 (fun s o => M s o * ((1 / D s : ℝ) : EReal)
          - N s o * ((1 / D s : ℝ) : EReal) * (N s o * ((1 / D s : ℝ) : EReal))) := by
  funext j
  idx_vars j
  unfold spread
  rw [recip_arr N M D hD, avg_arr N M D hD]
  pointwise [up_apply, arr_apply, pack]

/-- A sum over a block of queries. -/
theorem rows_arr (A : Fin 512 → Fin 256 → EReal) : rows (arr .f32 A) = arr .f32 (fun _ o => ∑ s, A s o) := by
  funext j
  idx_vars j
  pointwise [rows, arr_apply]

/-- A sum over a block of queries of what is above zero. -/
theorem rowsPos_arr (A : Fin 512 → Fin 256 → EReal) :
    rowsPos (arr .f32 A) = arr .f32 (fun _ o => ∑ s, max (A s o) ((0 : ℝ) : EReal)) := by
  funext j
  idx_vars j
  pointwise [rowsPos, rows, arr_apply]
  rfl

/-- The sum of the four blocks' rows. -/
theorem sum4_arr (a b c d : Fin 1 → Fin 256 → EReal) :
    sum4 (arr .f32 a) (arr .f32 b) (arr .f32 c) (arr .f32 d) = arr .f32 (fun i o => a i o + b i o + c i o + d i o) := by
  funext j
  idx_vars j
  pointwise [sum4, arr_apply]

/-- The same of reals. -/
theorem sum4_up (a b c d : Fin 1 → Fin 256 → ℝ) :
    sum4 (up .f32 a) (up .f32 b) (up .f32 c) (up .f32 d) = up .f32 (fun i o => a i o + b i o + c i o + d i o) := by
  funext j
  idx_vars j
  pointwise [sum4, up_apply]
  simp only [← EReal.coe_add]

/-- The output of one batch element, from the two rows of sums. -/
theorem affine_arr (X : Fin 256 → Fin 2048 → EReal) (m : Fin 1 → Fin 256 → EReal) (s : Fin 1 → Fin 256 → ℝ) (hs : ∀ i o, 0 ≤ s i o) :
    affine (arr .f32 X) (mean (arr .f32 X)) (rdev (arr .f32 X)) (arr .f32 m) (up .f32 s)
      = arr3 .f32 (fun _ c t => ((√(s 0 c / 2048) * Spec.normed (Ext.tame (X c)) t : ℝ) : EReal) + m 0 c * ((1 / 2048 : ℝ) : EReal)) := by
  have hq : ∀ c, 0 ≤ s 0 c * (1 / 2048) := fun c => mul_nonneg (hs 0 c) (by norm_num)
  funext j
  idx_vars j
  rw [mean_arr, rdev_arr]
  pointwise [affine, perQuery, up_apply, arr_apply, arr3_apply, c_inv2048]
  simp only [← EReal.coe_mul, sqrt_coe (hq _)]
  rw [Ext.affine_eq, mul_one_div, EReal.coe_mul]

/-- A block of 512 queries out of all of them. -/
def blk (b : ℕ) (hb : b + 512 ≤ 2048) (q : Fin 2048 → Fin 256 → ℝ) (s : Fin 512) (o : Fin 256) : ℝ := q ⟨b + s, by omega⟩ o

/-- One query block's weighted columns: its weighted means and variances are the attention's. -/
theorem avg_block (q k : Fin 2048 → Fin 256 → ℝ) (v : Fin 2048 → Fin 256 → EReal) (b : ℕ) (hb : b + 512 ≤ 2048) :
    let e := attend (up .fp8e4m3 (blk b hb fun s o => half * q s o)) (up .fp8e4m3 fun t o => half * k t o)
      (cols (arr .f32 v))
    rows (avg e) = arr .f32 (fun _ o => ∑ s : Fin 512, Ext.avg (Spec.weight (Spec.score q k ⟨b + s, by omega⟩)) (fun t => v t o))
    ∧ rowsPos (spread e)
      = up .f32 (fun _ o => ∑ s : Fin 512, Ext.var (Spec.weight (Spec.score q k ⟨b + s, by omega⟩)) (fun t => v t o)) := by
  intro e
  have he : e = arr .f32 (pack
      (fun s o => ∑ t, ((Real.exp (Spec.score q k ⟨b + s, by omega⟩ t) / 8 : ℝ) : EReal) * v t o)
      (fun s o => ∑ t, ((Real.exp (Spec.score q k ⟨b + s, by omega⟩ t) / 8 : ℝ) : EReal) * (v t o * v t o))
      (fun s : Fin 512 => ∑ t, Real.exp (Spec.score q k ⟨b + s, by omega⟩ t) / 8 * 1)) := by
    show attend _ _ _ = _
    rw [cols_arr, attend_arr]
    simp only [blk, Spec.pow_score]
    congr 1
    funext s j
    exact sum_pack (fun s t => Real.exp (Spec.score q k ⟨b + s, by omega⟩ t) / 8) _ _ _ s j
  have hD : ∀ s : Fin 512, ∑ t, Real.exp (Spec.score q k ⟨b + s, by omega⟩ t) / 8 * 1 ≠ 0 := fun s => (Spec.total_pos _).ne'
  rw [he, avg_arr _ _ _ hD, spread_arr _ _ _ hD, rows_arr, rowsPos_arr]
  simp only [Ext.avg_of_sums, Ext.var_coe _ (Spec.weight_pos _), sum_coe]
  exact ⟨trivial, rfl⟩

end Cert.Steps

end
-- ==== Proof.Element.lean ====
/- What the kernel's body stores for one batch element, and for a block of two. -/
module

public import proofs.«01_k».proof.Proof.Steps
public import Idealize.ShloMosaic.Lib.Pipeline.ValueKit

@[expose] public section

set_option maxRecDepth 16384

noncomputable section

namespace Cert.Element

open Cert.KernelIdeal Cert.KernelIdeal.Gen Idealize.ShloMosaic Cert.Block Cert.Up Cert.Steps

/-- A batch element without its unit axis. -/
theorem flat_arr (X : Fin 1 → Fin 256 → Fin 2048 → EReal) : flat (arr3 .f32 X) = arr .f32 (X 0) := by
  funext j
  idx_vars j
  pointwise [flat, arr_apply, arr3_apply]

/-- A slice of 512 queries: its entries are those of the block. -/
theorem slice_up (b : ℕ) (hb : b + 512 ≤ 2048) (q : Fin 2048 → Fin 256 → ℝ)
    (h : S2048x256.Slices ![b, 0] S512x256) :
    extractStridedSlice S512x256 ![b, 0] (up .fp8e4m3 q : FVec Ideal S2048x256 .fp8e4m3) h = up .fp8e4m3 (blk b hb q) := by
  funext j
  idx_vars j
  pointwise [up_apply, blk]

/-- ONE BATCH ELEMENT: where the query and key weights are real, the body stores the channel-adaptive normalisation. -/
theorem element_arr (X Y : Fin 1 → Fin 256 → Fin 2048 → EReal) (WQ WK : Fin 256 → Fin 256 → ℝ) (WV : Fin 256 → Fin 256 → EReal) :
    element (arr3 .f32 X) (arr3 .f32 Y) (up .f32 WQ) (up .f32 WK) (arr .f32 WV)
      = arr3 .f32 (fun _ => Ext.out (X 0) (Y 0) WQ WK WV) := by
  unfold element
  rw [flat_arr, flat_arr, projection, projection, val_arr]
  unfold attendAll finish
  rw [slice_up 0 (by norm_num), slice_up 512 (by norm_num), slice_up 1024 (by norm_num), slice_up 1536 (by norm_num)]
  have B := avg_block (Spec.proj (fun c => Ext.tame (X 0 c)) WQ) (Spec.proj (fun c => Ext.tame (Y 0 c)) WK) (Ext.val (Y 0) WV)
  rw [(B 0 (by norm_num)).1, (B 512 (by norm_num)).1, (B 1024 (by norm_num)).1, (B 1536 (by norm_num)).1,
    (B 0 (by norm_num)).2, (B 512 (by norm_num)).2, (B 1024 (by norm_num)).2, (B 1536 (by norm_num)).2, sum4_arr, sum4_up,
    affine_arr _ _ _ fun i o => by
      refine add_nonneg (add_nonneg (add_nonneg ?_ ?_) ?_) ?_ <;> exact Finset.sum_nonneg fun s _ => Ext.var_nonneg _ _]
  congr 1
  funext i c t
  let w : Fin 2048 → Fin 2048 → ℝ := fun s =>
    Spec.weight (Spec.score (Spec.proj (fun c => Ext.tame (X 0 c)) WQ) (Spec.proj (fun c => Ext.tame (Y 0 c)) WK) s)
  have hv := Spec.sum_blocks fun s => Ext.var (w s) fun t => Ext.val (Y 0) WV t c
  have ha := Spec.sum_blocks fun s => Ext.avg (w s) fun t => Ext.val (Y 0) WV t c
  rw [hv, ha]
  rfl

/-- A block's first batch element. -/
theorem ld_first (X : Fin 2 → Fin 256 → Fin 2048 → EReal) :
    (View.ld (Val := Elt Ideal) (e' := .f32) (arr3 .f32 X : Vec Ideal S2x256x2048 .f32) r0_0 : FVec Ideal S1x256x2048 .f32) = arr3 .f32 (fun _ => X 0) := by
  funext j
  idx_vars j
  pointwise [arr3_apply]

/-- A block's second batch element. -/
theorem ld_second (X : Fin 2 → Fin 256 → Fin 2048 → EReal) :
    (View.ld (Val := Elt Ideal) (e' := .f32) (arr3 .f32 X : Vec Ideal S2x256x2048 .f32) r0_2 : FVec Ideal S1x256x2048 .f32) = arr3 .f32 (fun _ => X 1) := by
  funext j
  idx_vars j
  pointwise [arr3_apply]

/-- A weight matrix, read whole. -/
theorem ld_whole (W : Fin 256 → Fin 256 → EReal) :
    (View.ld (Val := Elt Ideal) (e' := .f32) (arr .f32 W : Vec Ideal S256x256 .f32) r0_1 : FVec Ideal S256x256 .f32) = arr .f32 W := by
  funext j
  idx_vars j
  pointwise [arr_apply]

/-- A real weight matrix, read whole. -/
theorem ld_real (W : Fin 256 → Fin 256 → ℝ) :
    (View.ld (Val := Elt Ideal) (e' := .f32) (up .f32 W : Vec Ideal S256x256 .f32) r0_1 : FVec Ideal S256x256 .f32) = up .f32 W :=
  ld_whole fun a b => (W a b : EReal)

/-- ONE BLOCK: where the query and key weights are real, the body leaves the normalisation of each of its two batch elements. -/
theorem block_arr (X Y : Fin 2 → Fin 256 → Fin 2048 → EReal) (WQ WK : Fin 256 → Fin 256 → ℝ)
    (WV : Fin 256 → Fin 256 → EReal) :
    out0_5 (F := Ideal) (arr3 .f32 X) (arr3 .f32 Y) (up .f32 WQ) (up .f32 WK) (arr .f32 WV)
      = arr3 .f32 (fun j => Ext.out (X j) (Y j) WQ WK WV) := by
  rw [out_eq]
  simp only [ld_first, ld_second, ld_whole, ld_real, element_arr]
  funext y
  canon_tiles x h
  · rw [arr3_of .f32 _ x 0 ⟨_, x1_lt⟩ ⟨_, x2_lt⟩ (by simp) rfl rfl,
      arr3_of .f32 _ y 1 ⟨_, x1_lt⟩ ⟨_, x2_lt⟩ (by simp; omega) h1 h2]
  · rw [arr3_of .f32 _ x 0 ⟨_, x1_lt⟩ ⟨_, x2_lt⟩ (by simp) rfl rfl,
      arr3_of .f32 _ y 0 ⟨_, x1_lt⟩ ⟨_, x2_lt⟩ (by simp; omega) h1 h2]

end Cert.Element

end
-- ==== Proof.Array.lean ====
/- What the kernel's result array holds after the run, where the query and key weights are real. -/
module

public import proofs.«01_k».proof.Proof.Element
public import proofs.«01_k».proof.Proof.Gen.KernelIdeal.Value

@[expose] public section

set_option maxRecDepth 16384

noncomputable section

namespace Cert.Array

open Cert.KernelIdeal Cert.KernelIdeal.Gen Idealize.ShloMosaic Idealize.ShloMosaic.TcCoe Cert.Up

/-- The grid's point `t` is the batch elements `2 t` and `2 t + 1` of both streams and of the result. -/
theorem idx0 : ∀ t : Fin grid0.N, win0_0.index t = ![t.val, 0, 0] := by decide +kernel
theorem idx1 : ∀ t : Fin grid0.N, win0_1.index t = ![t.val, 0, 0] := by decide +kernel
theorem idx5 : ∀ t : Fin grid0.N, win0_5.index t = ![t.val, 0, 0] := by decide +kernel
/-- The weights are whole at every point. -/
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel

variable (m : (ℓ : Loc nD τ sig) → Buf (Elt Ideal) ℓ) (c : Dev nD)

/-- The batch elements of one grid point. -/
def pair (X : Fin 16 → Fin 256 → Fin 2048 → EReal) (t : Fin 8) (j : Fin 2) : Fin 256 → Fin 2048 → EReal :=
  X ⟨t.val * 2 + j.val, by omega⟩

/-- A box read at an index of point `t`'s pair is the pair's box. -/
theorem at_pair (X : Fin 16 → Fin 256 → Fin 2048 → EReal) (t : Fin 8) (i : S16x256x2048.Idx) (y : S2x256x2048.Idx)
    (h0 : (i 0).val = t.val * 2 + (y 0).val) (h1 : (i 1).val = (y 1).val) (h2 : (i 2).val = (y 2).val) :
    arr3 .f32 X i = arr3 .f32 (pair X t) y :=
  arr3_of .f32 X i _ (y 1) (y 2) h0 h1 h2

/-- The first stream's block at point `t` is its two batch elements. -/
theorem blk0 (X : Fin 16 → Fin 256 → Fin 2048 → EReal) (h : m ((c : Thread nD τ).loc main_arg0) = arr3 .f32 X) (t : Fin cfg0.N) :
    iblk m c 0 t = arr3 .f32 (pair X t) := by
  funext y
  show ((cfg0.win 0).blk t).view.read (Elt Ideal) (m ((c : Thread nD τ).loc main_arg0)) y = _
  rw [h]
  blk_simp
  refine at_pair X t _ y ?_ ?_ ?_ <;> blk_simp [idx0]

/-- The second stream's block, likewise. -/
theorem blk1 (X : Fin 16 → Fin 256 → Fin 2048 → EReal) (h : m ((c : Thread nD τ).loc main_arg1) = arr3 .f32 X) (t : Fin cfg0.N) :
    iblk m c 1 t = arr3 .f32 (pair X t) := by
  funext y
  show ((cfg0.win 1).blk t).view.read (Elt Ideal) (m ((c : Thread nD τ).loc main_arg1)) y = _
  rw [h]
  blk_simp
  refine at_pair X t _ y ?_ ?_ ?_ <;> blk_simp [idx1]

/-- The query weights are whole at every point. -/
theorem blk2 (W : Fin 256 → Fin 256 → EReal) (h : m ((c : Thread nD τ).loc main_arg2) = arr .f32 W) (t : Fin cfg0.N) :
    iblk m c 2 t = arr .f32 W := by
  funext y
  show ((cfg0.win 2).blk t).view.read (Elt Ideal) (m ((c : Thread nD τ).loc main_arg2)) y = _
  rw [h]
  blk_simp
  refine arr_of .f32 W _ (y 0) (y 1) ?_ ?_ <;> blk_simp [idx2]

/-- The key weights are whole at every point. -/
theorem blk3 (W : Fin 256 → Fin 256 → EReal) (h : m ((c : Thread nD τ).loc main_arg3) = arr .f32 W) (t : Fin cfg0.N) :
    iblk m c 3 t = arr .f32 W := by
  funext y
  show ((cfg0.win 3).blk t).view.read (Elt Ideal) (m ((c : Thread nD τ).loc main_arg3)) y = _
  rw [h]
  blk_simp
  refine arr_of .f32 W _ (y 0) (y 1) ?_ ?_ <;> blk_simp [idx3]

/-- The value weights are whole at every point. -/
theorem blk4 (W : Fin 256 → Fin 256 → EReal) (h : m ((c : Thread nD τ).loc main_arg4) = arr .f32 W) (t : Fin cfg0.N) :
    iblk m c 4 t = arr .f32 W := by
  funext y
  show ((cfg0.win 4).blk t).view.read (Elt Ideal) (m ((c : Thread nD τ).loc main_arg4)) y = _
  rw [h]
  blk_simp
  refine arr_of .f32 W _ (y 0) (y 1) ?_ ?_ <;> blk_simp [idx4]

/-- THE RESULT ARRAY: where the query and key weights are real it holds, batch element by batch element, the channel-adaptive normalisation. -/
theorem final (X Y : Fin 16 → Fin 256 → Fin 2048 → EReal) (WQ WK : Fin 256 → Fin 256 → ℝ) (WV : Fin 256 → Fin 256 → EReal)
    (h0 : m ((c : Thread nD τ).loc main_arg0) = arr3 .f32 X) (h1 : m ((c : Thread nD τ).loc main_arg1) = arr3 .f32 Y)
    (h2 : m ((c : Thread nD τ).loc main_arg2) = up .f32 WQ) (h3 : m ((c : Thread nD τ).loc main_arg3) = up .f32 WK)
    (h4 : m ((c : Thread nD τ).loc main_arg4) = arr .f32 WV) :
    (dats m 0 c).arrAt 5 cfg0.N = arr3 .f32 (fun b => Ext.out (X b) (Y b) WQ WK WV) := by
  refine (dats m 0 c).arrAt_eq_of_covers 5 _ (by decide +kernel) fun t hf y => ?_
  rw [after0_5]
  blk_simp
  rw [blk0 m c X h0, blk1 m c Y h1, blk2 m c (fun a b => (WQ a b : EReal)) h2, blk3 m c (fun a b => (WK a b : EReal)) h3, blk4 m c WV h4]
  refine (congrFun (Element.block_arr (pair X t) (pair Y t) WQ WK WV) y).trans ?_
  refine (at_pair (fun b => Ext.out (X b) (Y b) WQ WK WV) t _ y ?_ ?_ ?_).symm <;> blk_simp [idx5]

end Cert.Array

end
-- ==== Proof.Host.lean ====
/- The steps of the reference, named, and its result as their composition. -/
module

public import proofs.«01_k».proof.Proof.Gen.ReferenceIdeal.Run
public import Idealize.ShloMosaic.Lib.Pointwise

@[expose] public section

set_option maxRecDepth 16384

noncomputable section

namespace Cert.Host

open Cert.ReferenceIdeal Cert.ReferenceIdeal.Gen Idealize.ShloMosaic Idealize.ShloMosaic.TcCoe

variable {F : FTy → Type} [FloatOps F]

/-- The means over time. -/
def mean (x : FVec F S16x256x2048 .f32) : FVec F S16x256x1 .f32 :=
  Host.divf (broadcastInDim S16x256x1 ![0, 1] bcast_S16x256_S16x256x1_0_1
      (Host.reduceAdd x (constant S_ .f32 0x00000000#32) reducesTo_S16x256x2048_S16x256_d2 h_S_))
    (broadcastInDim S16x256x1 ![] bcast_S_S16x256x1 (constant S_ .f32 0x45000000#32))

/-- The input less its means. -/
def centred (x : FVec F S16x256x2048 .f32) : FVec F S16x256x2048 .f32 :=
  subf x (broadcastInDim S16x256x2048 ![0, 1, 2] bcast_S16x256x1_S16x256x2048_0_1_2 (mean x))

/-- The number of degrees of freedom. -/
def freedom : FVec F S_ .f32 := subf (constant S_ .f32 0x45000000#32) (sitofp .f32 (constantI S_ 32 1#32))

/-- The variances over time. -/
def variance (x : FVec F S16x256x2048 .f32) : FVec F S16x256x1 .f32 :=
  select (broadcastInDim S16x256x1 ![] bcast_S_S16x256x1 (cmpf .ogt (freedom (F := F)) (constant S_ .f32 0x00000000#32)))
    (Host.divf (broadcastInDim S16x256x1 ![0, 1] bcast_S16x256_S16x256x1_0_1
        (Host.reduceAdd (mulf (centred x) (centred x)) (constant S_ .f32 0x00000000#32) reducesTo_S16x256x2048_S16x256_d2 h_S_))
      (broadcastInDim S16x256x1 ![] bcast_S_S16x256x1 (freedom (F := F))))
    (broadcastInDim S16x256x1 ![] bcast_S_S16x256x1 (id (constant S_ .f32 0x7FC00000#32)))

/-- The standard deviations plus epsilon. -/
def dev (x : FVec F S16x256x2048 .f32) : FVec F S16x256x1 .f32 :=
  addf (Host.sqrt (variance x)) (broadcastInDim S16x256x1 ![] bcast_S_S16x256x1 (constant S_ .f32 0x3727C5AC#32))

/-- The normalised input. -/
def normed (x : FVec F S16x256x2048 .f32) : FVec F S16x256x2048 .f32 :=
  Host.divf (centred x) (broadcastInDim S16x256x2048 ![0, 1, 2] bcast_S16x256x1_S16x256x2048_0_1_2 (dev x))

/-- A projection. -/
def proj (x : FVec F S16x256x2048 .f32) (w : FVec F S256x256 .f32) : FVec F S16x2048x256 .f32 :=
  Host.dotGeneral dot_S16x256x2048_S256x256_S16x2048x256_1_1_02_0_n_n none x w

/-- The scores. -/
def score (q k : FVec F S16x2048x256 .f32) : FVec F S16x2048x2048 .f32 :=
  Host.dotGeneral dot_S16x2048x256_S16x2048x256_S16x2048x2048_2_2_1_1_0_0 none
    (Host.divf q (broadcastInDim S16x2048x256 ![] bcast_S_S16x2048x256
      (Host.powf (constant S_ .f32 0x43800000#32) (constant S_ .f32 0x3F000000#32)))) k

/-- The largest score of each query. -/
def peak (a : FVec F S16x2048x2048 .f32) : FVec F S16x2048 .f32 :=
  maximumf (broadcastInDim S16x2048 ![] bcast_S_S16x2048 (constant S_ .f32 0xFF800000#32))
    (Host.reduce FloatOps.maximumf a (constant S_ .f32 0xFF800000#32) reducesTo_S16x2048x2048_S16x2048_d2 h_S_)

/-- A number per query, repeated over the keys. -/
def over (p : FVec F S16x2048 .f32) : FVec F S16x2048x2048 .f32 :=
  broadcastInDim S16x2048x2048 ![0, 1, 2] bcast_S16x2048x1_S16x2048x2048_0_1_2
    (broadcastInDim S16x2048x1 ![0, 1] bcast_S16x2048_S16x2048x1_0_1 p)

/-- The exponentials of the scores less the largest. -/
def expd (a : FVec F S16x2048x2048 .f32) : FVec F S16x2048x2048 .f32 := Host.exp (subf a (over (peak a)))

/-- The softmax. -/
def soft (a : FVec F S16x2048x2048 .f32) : FVec F S16x2048x2048 .f32 :=
  Host.divf (expd a) (over (Host.reduceAdd (expd a) (constant S_ .f32 0x00000000#32) reducesTo_S16x2048x2048_S16x2048_d2 h_S_))

/-- The weighted means of the columns. -/
def avg (w : FVec F S16x2048x2048 .f32) (v : FVec F S16x2048x256 .f32) : FVec F S16x2048x256 .f32 :=
  Host.dotGeneral dot_S16x2048x2048_S16x2048x256_S16x2048x256_2_1_1_2_0_0 none w v

/-- The weighted variances, cut off at zero. -/
def spread (w : FVec F S16x2048x2048 .f32) (v : FVec F S16x2048x256 .f32) : FVec F S16x2048x256 .f32 :=
  maximumf (subf (avg w (mulf v v)) (mulf (avg w v) (avg w v)))
    (broadcastInDim S16x2048x256 ![] bcast_S_S16x2048x256 (constant S_ .f32 0x00000000#32))

/-- The means over the queries. -/
def rows (v : FVec F S16x2048x256 .f32) : FVec F S16x256 .f32 :=
  Host.divf (Host.reduceAdd v (constant S_ .f32 0x00000000#32) reducesTo_S16x2048x256_S16x256_d1 h_S_)
    (broadcastInDim S16x256 ![] bcast_S_S16x256 (constant S_ .f32 0x45000000#32))

/-- A number per channel, repeated over time. -/
def wide (p : FVec F S16x256 .f32) : FVec F S16x256x2048 .f32 :=
  broadcastInDim S16x256x2048 ![0, 1, 2] bcast_S16x256x1_S16x256x2048_0_1_2
    (broadcastInDim S16x256x1 ![0, 1] bcast_S16x256_S16x256x1_0_1 p)

/-- The result, from the normalised input, the softmax and the values. -/
def restyle (n : FVec F S16x256x2048 .f32) (w : FVec F S16x2048x2048 .f32) (v : FVec F S16x2048x256 .f32) : FVec F S16x256x2048 .f32 :=
  addf (mulf (wide (Host.sqrt (rows (spread w v)))) n) (wide (rows (avg w v)))

/-- The result, from the arguments. -/
def result (x y : FVec F S16x256x2048 .f32) (wq wk wv : FVec F S256x256 .f32) : FVec F S16x256x2048 .f32 :=
  restyle (normed x) (soft (score (proj (normed x) wq) (proj (normed y) wk))) (proj y wv)

/-- The reference's result is the composition of the steps. -/
theorem res_eq (m : (ℓ : Loc nD τ sig) → Buf (Elt F) ℓ) (c : Dev nD) :
    Cert.ReferenceIdeal.Value.res_main_v58 m c
      = result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rfl

end Cert.Host

end
-- ==== Proof.Ref.lean ====
/- What every step of the reference (Host.lean) computes, on arrays of extended reals or of reals; and the reference's result. -/
module

public import proofs.«01_k».proof.Proof.Host
public import proofs.«01_k».proof.Proof.Ext

@[expose] public section

set_option maxRecDepth 16384

noncomputable section

namespace Cert.Ref

open Cert.ReferenceIdeal Cert.ReferenceIdeal.Gen Idealize.ShloMosaic Cert.Up Cert.Consts

/-- The means over time. -/
theorem mean_arr (X : Fin 16 → Fin 256 → Fin 2048 → EReal) : Host.mean (arr3 .f32 X) = arr3 .f32 (fun b c _ => Ext.mean (X b c)) := by
  funext j
  idx_vars j
  pointwise [Host.mean, arr3_apply, c_2048]
  rw [Ideal.div_coe (by norm_num), Ext.mean]

/-- The input less its means. -/
theorem centred_arr (X : Fin 16 → Fin 256 → Fin 2048 → EReal) :
    Host.centred (arr3 .f32 X) = arr3 .f32 (fun b c t => X b c t - Ext.mean (X b c)) := by
  unfold Host.centred
  rw [mean_arr]
  funext j
  idx_vars j
  pointwise [arr3_apply]

/-- The number one, converted. -/
theorem freedom_real : (FloatOps.sitofp (F := Ideal) .f32 (1#32)) = ((1 : ℝ) : EReal) := by
  show (((1#32 : BitVec 32).toInt : ℝ) : EReal) = _
  norm_num

/-- The variances over time. -/
theorem variance_arr (X : Fin 16 → Fin 256 → Fin 2048 → EReal) : Host.variance (arr3 .f32 X)
    = arr3 .f32 (fun b c _ => Ideal.div (∑ t, (X b c t - Ext.mean (X b c)) * (X b c t - Ext.mean (X b c))) ((2047 : ℝ) : EReal)) := by
  unfold Host.variance
  rw [centred_arr]
  funext j
  idx_vars j
  pointwise [arr3_apply, Host.freedom, c_2048]
  rw [freedom_real, ← EReal.coe_sub, if_pos (by norm_num)]
  norm_num

/-- The normalised input. -/
theorem normed_arr (X : Fin 16 → Fin 256 → Fin 2048 → EReal) :
    Host.normed (arr3 .f32 X) = up3 .f32 (fun b c => Spec.normed (Ext.tame (X b c))) := by
  unfold Host.normed Host.dev
  rw [centred_arr, variance_arr]
  funext j
  idx_vars j
  pointwise [arr3_apply, up3_apply, c_eps]
  rw [← Ext.normed_eq, Ext.normed]

/-- The value projection. -/
theorem val_arr (X : Fin 16 → Fin 256 → Fin 2048 → EReal) (W : Fin 256 → Fin 256 → EReal) :
    Host.proj (arr3 .f32 X) (arr .f32 W) = arr3 .f32 (fun b => Ext.val (X b) W) := by
  funext j
  idx_vars j
  pointwise [Host.proj, arr3_apply, arr_apply, Ext.val]

/-- A projection of reals. -/
theorem proj_up (X : Fin 16 → Fin 256 → Fin 2048 → ℝ) (W : Fin 256 → Fin 256 → ℝ) :
    Host.proj (up3 .f32 X) (up .f32 W) = up3 .f32 (fun b s o => ∑ c, X b c s * W o c) := by
  funext j
  idx_vars j
  pointwise [Host.proj, up3_apply, up_apply]
  simp only [← EReal.coe_mul, sum_coe]

/-- The root of 256 as a power. -/
theorem pow_half : Real.rpow 256 (1 / 2) = 16 := by
  show (256 : ℝ) ^ (1 / 2 : ℝ) = 16
  rw [← Real.sqrt_eq_rpow, show (256 : ℝ) = 16 * 16 by norm_num, Real.sqrt_mul_self (by norm_num)]

/-- The scores. -/
theorem score_up (q k : Fin 16 → Fin 2048 → Fin 256 → ℝ) :
    Host.score (up3 .f32 q) (up3 .f32 k) = up3 .f32 (fun b => Spec.score (q b) (k b)) := by
  funext j
  idx_vars j
  pointwise [Host.score, up3_apply, c_256, c_half]
  rw [Ideal.pow_coe_coe, pow_half]
  simp only [div_coe (show (16 : ℝ) ≠ 0 by norm_num), ← EReal.coe_mul, sum_coe]
  rfl

/-- The largest of finitely many reals, from minus infinity, is a real. -/
theorem fold_max {ι : Type} [Fintype ι] [Nonempty ι] (f : ι → ℝ) :
    ∃ r : ℝ, (Finset.univ : Finset ι).sup (fun t => ((f t : ℝ) : EReal)) = r := by
  obtain ⟨i, -, h⟩ := Finset.exists_mem_eq_sup (Finset.univ : Finset ι) Finset.univ_nonempty fun t => ((f t : ℝ) : EReal)
  exact ⟨f i, h⟩

/-- The elementwise maximum, at an index. -/
theorem maximumf_at {s : Shape} (x y : FVec Ideal s .f32) (j : s.Idx) : maximumf x y j = max (x j) (y j) := rfl

/-- The largest score of one query is a real. -/
theorem peak_at (a : Fin 16 → Fin 2048 → Fin 2048 → ℝ) (j : S16x2048.Idx) : ∃ r : ℝ, Host.peak (up3 .f32 a) j = (r : EReal) := by
  have h : S16x2048x2048.Reduces [2] S16x2048 := by decide
  have : Nonempty (Fin (S16x2048x2048.size 2)) := ⟨(0 : Fin 2048)⟩
  obtain ⟨r, hr⟩ := fold_max fun k => a (h.lift j k 0) (h.lift j k 1) (h.lift j k 2)
  refine ⟨r, ?_⟩
  unfold Host.peak
  rw [maximumf_at, Host.reduce_eq_fold_single FloatOps.maximumf _ _ reducesTo_S16x2048x2048_S16x2048_d2 h h_S_]
  refine Eq.trans ?_ hr
  refine Eq.trans (congrArg₂ max c_bot ?_) (max_bot_left _)
  exact congrArg (fun b => Finset.fold FloatOps.maximumf b (up3 .f32 a ∘ h.lift j) Finset.univ) c_bot

/-- The largest score of each query is a real. -/
theorem peak_up (a : Fin 16 → Fin 2048 → Fin 2048 → ℝ) : ∃ p : Fin 16 → Fin 2048 → ℝ, Host.peak (up3 .f32 a) = up .f32 p := by
  choose r hr using peak_at a
  refine ⟨fun b s => r (ix2 b s), ?_⟩
  funext j
  idx_vars j
  exact hr _

/-- The softmax: the shift by the largest score does not matter. -/
theorem soft_up (a : Fin 16 → Fin 2048 → Fin 2048 → ℝ) : Host.soft (up3 .f32 a) = up3 .f32 (fun b s => Spec.weight (a b s)) := by
  obtain ⟨p, hp⟩ := peak_up a
  have he : Host.expd (up3 .f32 a) = up3 .f32 (fun b s t => Real.exp (a b s t - p b s)) := by
    unfold Host.expd
    rw [hp]
    funext j
    idx_vars j
    pointwise [Host.over, up3_apply, up_apply]
    rw [← EReal.coe_sub, Ideal.exp_coe]
  unfold Host.soft
  rw [he]
  funext j
  idx_vars j
  pointwise [Host.over, up3_apply]
  rw [sum_coe, div_coe (Finset.sum_pos (fun t _ => Real.exp_pos _) Finset.univ_nonempty).ne', Spec.weight_shift]

/-- The weighted means of the columns. -/
theorem avg_arr (w : Fin 16 → Fin 2048 → Fin 2048 → ℝ) (v : Fin 16 → Fin 2048 → Fin 256 → EReal) :
    Host.avg (up3 .f32 w) (arr3 .f32 v) = arr3 .f32 (fun b s o => Ext.avg (w b s) (fun t => v b t o)) := by
  funext j
  idx_vars j
  pointwise [Host.avg, up3_apply, arr3_apply, Ext.avg]

/-- The elementwise square. -/
theorem square_arr (v : Fin 16 → Fin 2048 → Fin 256 → EReal) :
    (mulf (arr3 .f32 v) (arr3 .f32 v) : FVec Ideal S16x2048x256 .f32) = arr3 .f32 (fun b s o => v b s o * v b s o) := rfl

/-- The weighted variances, cut off at zero. -/
theorem spread_arr (w : Fin 16 → Fin 2048 → Fin 2048 → ℝ) (hw : ∀ b s t, 0 < w b s t) (v : Fin 16 → Fin 2048 → Fin 256 → EReal) :
    Host.spread (up3 .f32 w) (arr3 .f32 v) = up3 .f32 (fun b s o => Ext.var (w b s) (fun t => v b t o)) := by
  unfold Host.spread
  rw [square_arr, avg_arr, avg_arr]
  funext j
  idx_vars j
  pointwise [arr3_apply, up3_apply, c_0]
  exact Ext.var_coe _ (hw _ _) _

/-- The means over the queries. -/
theorem rows_arr (v : Fin 16 → Fin 2048 → Fin 256 → EReal) :
    Host.rows (arr3 .f32 v) = arr .f32 (fun b o => (∑ s, v b s o) * ((1 / 2048 : ℝ) : EReal)) := by
  funext j
  idx_vars j
  pointwise [Host.rows, arr3_apply, arr_apply, c_2048]
  rw [Ideal.div_coe (by norm_num)]

/-- The means over the queries, of reals. -/
theorem rows_up (v : Fin 16 → Fin 2048 → Fin 256 → ℝ) :
    Host.rows (up3 .f32 v) = up .f32 (fun b o => (∑ s, v b s o) / 2048) := by
  funext j
  idx_vars j
  pointwise [Host.rows, up3_apply, up_apply, c_2048]
  rw [sum_coe, div_coe (by norm_num)]

/-- THE REFERENCE: where the query and key weights are real, its result is, batch element by batch element, the
    channel-adaptive normalisation. -/
theorem result_arr (X Y : Fin 16 → Fin 256 → Fin 2048 → EReal) (WQ WK : Fin 256 → Fin 256 → ℝ) (WV : Fin 256 → Fin 256 → EReal) :
    Host.result (arr3 .f32 X) (arr3 .f32 Y) (up .f32 WQ) (up .f32 WK) (arr .f32 WV)
      = arr3 .f32 (fun b => Ext.out (X b) (Y b) WQ WK WV) := by
  unfold Host.result Host.restyle
  rw [normed_arr, normed_arr, proj_up, proj_up, val_arr, score_up, soft_up, spread_arr _ fun b s => Spec.weight_pos _, avg_arr,
    rows_up, rows_arr]
  funext j
  idx_vars j
  pointwise [Host.wide, up3_apply, arr3_apply, up_apply, arr_apply]
  rw [sqrt_coe (div_nonneg (Finset.sum_nonneg fun s _ => Ext.var_nonneg _ _) (by norm_num)), ← EReal.coe_mul]
  rfl

end Cert.Ref

end
-- ==== Proof.Finite.lean ====
/- The precondition, read: the query weights and the key weights are matrices of reals. -/
module

public import proofs.«01_k».proof.Pre_finite
public import proofs.«01_k».proof.Proof.Consts
public import proofs.«01_k».proof.Proof.Up
public import Idealize.ShloMosaic.Lib.ReduceAll

@[expose] public section

set_option maxRecDepth 16384

noncomputable section

namespace Cert.Finite

open Cert.Pre_finite Idealize.ShloMosaic Cert.Up Cert.Consts

/-- The shape relations that the precondition's operations take. -/
instance facts : Cert.Pre_finite.Facts where
  h_S_ := by decide
  bcast_S_S256x256 := by decide
  reducesTo_S256x256_S_d0_1 := by decide

open Cert.Pre_finite.Facts

/-- The index of an array of no axis is the only one. -/
instance one_index : Subsingleton S_.Idx := ⟨fun a b => funext fun i => i.elim0⟩

/-- Whether every element of a matrix is finite. -/
def all2 (x : FVec Ideal S256x256 .f32) : IVec S_ 1 :=
  Host.reduce IntOp.andi (cmpf .olt (Host.absf x) (broadcastInDim S256x256 ![] bcast_S_S256x256 (constant S_ .f32 0x7F800000#32)))
    (constantI S_ 1 1#1) reducesTo_S256x256_S_d0_1 h_S_

/-- The precondition is the conjunction over the two weights. -/
theorem fn_eq (x y : FVec Ideal S16x256x2048 .f32) (a b c : FVec Ideal S256x256 .f32) :
    fn (F := Ideal) x y a b c = andi (all2 a) (all2 b) := rfl

/-- A bit of an elementwise conjunction. -/
theorem andi_bit {s : Shape} (p q : IVec s 1) (j : s.Idx) (h : andi p q j = 1#1) : p j = 1#1 ∧ q j = 1#1 :=
  IntOp.andi_eq_one.1 h

/-- A number whose absolute value lies under plus infinity is a real. -/
theorem real_of_cmp (x : EReal) (h : Ideal.cmp .olt (max x (-x)) (Ideal.ofBits .f32 0x7F800000#32) = 1#1) : ∃ r : ℝ, x = r := by
  rw [c_top] at h
  have h' : max x (-x) < ⊤ := by
    by_contra hn
    simp [Ideal.cmp, hn] at h
  obtain ⟨h1, h2⟩ := max_lt_iff.1 h'
  refine ⟨x.toReal, (EReal.coe_toReal h1.ne ?_).symm⟩
  rintro rfl
  simp at h2

/-- Every box is one of extended reals. -/
theorem box (x : FVec Ideal S16x256x2048 .f32) : ∃ X : Fin 16 → Fin 256 → Fin 2048 → EReal, x = arr3 .f32 X := by
  refine ⟨fun a b c => x (ix3 a b c), ?_⟩
  funext i
  idx_vars i
  rfl

/-- Every matrix is one of extended reals. -/
theorem any (x : FVec Ideal S256x256 .f32) : ∃ X : Fin 256 → Fin 256 → EReal, x = arr .f32 X := by
  refine ⟨fun a b => x (ix2 a b), ?_⟩
  funext i
  idx_vars i
  rfl

/-- A matrix that is finite is a matrix of reals. -/
theorem matrix (x : FVec Ideal S256x256 .f32) (j : S_.Idx) (h : all2 x j = 1#1) :
    ∃ X : Fin 256 → Fin 256 → ℝ, x = up .f32 X := by
  have hr : ∀ i, ∃ r : ℝ, x i = (r : EReal) := fun i => real_of_cmp (x i) (Host.reduce_andi_all _ _ _ _ j h i)
  choose r hr using hr
  refine ⟨fun a b => r (ix2 a b), ?_⟩
  funext i
  idx_vars i
  exact hr _

/-- THE PRECONDITION: the query weights and the key weights are matrices of reals. -/
theorem reals (x y : FVec Ideal S16x256x2048 .f32) (a b c : FVec Ideal S256x256 .f32)
    (h : fn (F := Ideal) x y a b c = fun _ => 1#1) :
    (∃ A : Fin 256 → Fin 256 → ℝ, a = up .f32 A) ∧ ∃ B : Fin 256 → Fin 256 → ℝ, b = up .f32 B := by
  let j : S_.Idx := fun i => i.elim0
  obtain ⟨ha, hb⟩ := andi_bit _ _ j (congrFun ((fn_eq x y a b c).symm.trans h) j)
  exact ⟨matrix a j ha, matrix b j hb⟩

end Cert.Finite

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Ref
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel ends, keeps its arguments and leaves every semaphore at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- So does the idealized kernel where the precondition holds. -/
theorem frame_pi_finite : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- So does the reference where the precondition holds. -/
theorem frame_ri_finite : Cert.quiescent_ReferenceIdeal_pre_finite := fun m ρ _ =>
  frame_ri m ρ trivial

/-- The idealized kernel is the kernel with one constant named: the root of 1 / (16 log 2). -/
theorem preserves : Cert.preserves_Kernel_KernelIdeal :=
  IdealRules.named_const.statement Cert.KernelIdeal.κ "half_scale" .f32 0x3E99BE61#32
    (((Real.sqrt (16 * Real.log 2))⁻¹ : ℝ) : EReal) rfl

/-- Where the query and key weights are finite, the idealized kernel's result is the reference's. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨⟨A, hA⟩, ⟨B, hB⟩⟩ := Cert.Finite.reals _ _ _ _ _ (hpre c)
  obtain ⟨X, hX⟩ := Cert.Finite.box (m ((c.tc : Thread Cert.KernelIdeal.nD Cert.KernelIdeal.τ).loc Cert.KernelIdeal.main_arg0))
  obtain ⟨Y, hY⟩ := Cert.Finite.box (m ((c.tc : Thread Cert.KernelIdeal.nD Cert.KernelIdeal.τ).loc Cert.KernelIdeal.main_arg1))
  obtain ⟨C, hC⟩ := Cert.Finite.any (m ((c.tc : Thread Cert.KernelIdeal.nD Cert.KernelIdeal.τ).loc Cert.KernelIdeal.main_arg4))
  obtain ⟨e0, e1, e2, e3, e4⟩ := hagree c
  refine Eq.trans ?_ (Cert.Array.final m c X Y A B C hX hY hA hB hC).symm
  refine (Cert.Host.res_eq m' c).trans ?_
  rw [e0, e1, e2, e3, e4, hX, hY, hA, hB, hC]
  exact Cert.Ref.result_arr X Y A B C

/-- The claims. -/
theorem claim : Cert.Claim :=
  ⟨Cert.Kernel.Gen.facts, Cert.KernelIdeal.Gen.facts, Cert.ReferenceIdeal.Gen.facts, Cert.Finite.facts,
    frame_p, frame_pi, frame_pi_finite, frame_ri, frame_ri_finite, preserves, algebraic⟩

end Cert.Proof

end
